-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.PackStatement Cert.KernelIdeal.S32x256
  ∧ IdealRules.bf16_pair.Statement Cert.KernelIdeal.S64x256 Cert.KernelIdeal.S32x256

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_1)) (v1 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_1) = v0 c
          ∧ r.2.mem ((c.tc : Thread Cert.KernelIdeal.nD Cert.KernelIdeal.τ).loc Cert.KernelIdeal.main_v17_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S10x16384x1024 : Shape := ⟨3, ![10, 16384, 1024]⟩
abbrev S10x16384x8 : Shape := ⟨3, ![10, 16384, 8]⟩
abbrev S1024x320 : Shape := ⟨2, ![1024, 320]⟩
abbrev S8x3 : Shape := ⟨2, ![8, 3]⟩
abbrev S256 : Shape := ⟨1, ![256]⟩
abbrev S10 : Shape := ⟨1, ![10]⟩
abbrev S_ : Shape := ⟨0, ![]⟩

class Facts : Prop where
  bcast_S_S10 : S_.BroadcastsInDim S10 (![] : Fin 0 → Fin S10.rank)
  reducesTo_S10_S_d0 : S10.ReducesTo [0] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S10x16384x1024 .fp8e4m3) (main_arg1 : FVec F S10x16384x8 .f32) (main_arg2 : FVec F S1024x320 .fp8e4m3) (main_arg3 : FVec F S8x3 .f32) (main_arg4 : FVec F S256 .f32) (main_arg5 : IVec S10 32) : IVec S_ 1 :=
  let main_c : IVec S_ 32 := constantI S_ 32 0#32
  let main_v0 : IVec S10 32 := broadcastInDim S10 ![] bcast_S_S10 main_c
  let main_v1 : IVec S10 1 := cmpi .sge main_arg5 main_v0
  let main_c_0 : IVec S_ 32 := constantI S_ 32 8192#32
  let main_v2 : IVec S10 32 := broadcastInDim S10 ![] bcast_S_S10 main_c_0
  let main_v3 : IVec S10 1 := cmpi .sle main_arg5 main_v2
  let main_v4 : IVec S10 1 := andi main_v1 main_v3
  let main_c_1 : IVec S_ 1 := constantI S_ 1 1#1
  let main_v5 : IVec S_ 1 := (fun x v => Host.reduce IntOp.andi x v reducesTo_S10_S_d0 h_S_) main_v4 main_c_1
  let main_v6 : FVec F S256 .f32 := Host.absf main_arg4
  let main_cst : FVec F S_ .f32 := constant S_ .f32 0x7F7FFFFF#32
  let main_v7 : FVec F S256 .f32 := broadcastInDim S256 ![] bcast_S_S256 main_cst
  let main_v8 : IVec S256 1 := cmpf .ole main_v6 main_v7
  let main_c_2 : IVec S_ 1 := constantI S_ 1 1#1
  let main_v9 : IVec S_ 1 := (fun x v => Host.reduce IntOp.andi x v reducesTo_S256_S_d0 h_S_) main_v8 main_c_2
  let main_v10 : IVec S_ 1 := andi main_v5 main_v9
  main_v10
-- ==== Kernel.lean ====
abbrev S10x16384x1024 : Shape := ⟨3, ![10, 16384, 1024]⟩
abbrev S10x16384x8 : Shape := ⟨3, ![10, 16384, 8]⟩
abbrev S1024x320 : Shape := ⟨2, ![1024, 320]⟩
abbrev S8x3 : Shape := ⟨2, ![8, 3]⟩
abbrev S256 : Shape := ⟨1, ![256]⟩
abbrev S10 : Shape := ⟨1, ![10]⟩
abbrev S32 : Shape := ⟨1, ![32]⟩
abbrev S_ : Shape := ⟨0, ![]⟩
abbrev S32x1 : Shape := ⟨2, ![32, 1]⟩
abbrev S32x128 : Shape := ⟨2, ![32, 128]⟩
abbrev S10x8x16384 : Shape := ⟨3, ![10, 8, 16384]⟩
abbrev S320x1024 : Shape := ⟨2, ![320, 1024]⟩
abbrev S3x8 : Shape := ⟨2, ![3, 8]⟩
abbrev S256x1 : Shape := ⟨2, ![256, 1]⟩
abbrev S10x64x16384 : Shape := ⟨3, ![10, 64, 16384]⟩
abbrev S10x16384x256 : Shape := ⟨3, ![10, 16384, 256]⟩
abbrev S10x2x16384 : Shape := ⟨3, ![10, 2, 16384]⟩
abbrev S1x1024x1024 : Shape := ⟨3, ![1, 1024, 1024]⟩
abbrev S1x8x1024 : Shape := ⟨3, ![1, 8, 1024]⟩
abbrev S1x64x1024 : Shape := ⟨3, ![1, 64, 1024]⟩
abbrev S1x1024x256 : Shape := ⟨3, ![1, 1024, 256]⟩
abbrev S1x2x1024 : Shape := ⟨3, ![1, 2, 1024]⟩
abbrev S32x24704 : Shape := ⟨2, ![32, 24704]⟩
abbrev S64x128 : Shape := ⟨2, ![64, 128]⟩
abbrev S128x128 : Shape := ⟨2, ![128, 128]⟩
abbrev S1x1 : Shape := ⟨2, ![1, 1]⟩
abbrev S1x8x256 : Shape := ⟨3, ![1, 8, 256]⟩
abbrev S8x256 : Shape := ⟨2, ![8, 256]⟩
abbrev S256x8 : Shape := ⟨2, ![256, 8]⟩
abbrev S1x256x128 : Shape := ⟨3, ![1, 256, 128]⟩
abbrev S256x128 : Shape := ⟨2, ![256, 128]⟩
abbrev S256x1024 : Shape := ⟨2, ![256, 1024]⟩
abbrev S320x256 : Shape := ⟨2, ![320, 256]⟩
abbrev S256x256 : Shape := ⟨2, ![256, 256]⟩
abbrev S1x256 : Shape := ⟨2, ![1, 256]⟩
abbrev S128x256 : Shape := ⟨2, ![128, 256]⟩
abbrev S2x256 : Shape := ⟨2, ![2, 256]⟩
abbrev S1x2x256 : Shape := ⟨3, ![1, 2, 256]⟩
abbrev S1 : Shape := ⟨1, ![1]⟩
abbrev S32x256 : Shape := ⟨2, ![32, 256]⟩
abbrev S64x256 : Shape := ⟨2, ![64, 256]⟩
abbrev S1x64x256 : Shape := ⟨3, ![1, 64, 256]⟩
abbrev S1x256x256 : Shape := ⟨3, ![1, 256, 256]⟩

abbrev nBuf : Space → Nat
  | .hbm => 30
  | .vmem => 18
  | .smem => 1
  | _ => 0

abbrev bufTy : (tb : Table) → Fin (tcTables nBuf tb) → BufTy
  | .hbm, ⟨0, _⟩ => ⟨S10x16384x1024, .fp8e4m3⟩
  | .hbm, ⟨1, _⟩ => ⟨S10x16384x8, .f32⟩
  | .hbm, ⟨2, _⟩ => ⟨S1024x320, .fp8e4m3⟩
  | .hbm, ⟨3, _⟩ => ⟨S8x3, .f32⟩
  | .hbm, ⟨4, _⟩ => ⟨S256, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32x1, .f32⟩
  | .hbm, ⟨22, _⟩ => ⟨S32x128, .f32⟩
  | .hbm, ⟨23, _⟩ => ⟨S10x8x16384, .f32⟩
  | .hbm, ⟨24, _⟩ => ⟨S320x1024, .fp8e4m3⟩
  | .hbm, ⟨25, _⟩ => ⟨S3x8, .f32⟩
  | .hbm, ⟨26, _⟩ => ⟨S256x1, .f32⟩
  | .hbm, ⟨27, _⟩ => ⟨S10x64x16384, .bf16⟩
  | .hbm, ⟨28, _⟩ => ⟨S10x16384x256, .fp8e4m3⟩
  | .hbm, ⟨29, _⟩ => ⟨S10x2x16384, .f32⟩
  | .local _ .vmem, ⟨0, _⟩ => ⟨S1x1024x1024, .fp8e4m3⟩
  | .local _ .vmem, ⟨1, _⟩ => ⟨S1x1024x1024, .fp8e4m3⟩
  | .local _ .vmem, ⟨2, _⟩ => ⟨S1x8x1024, .f32⟩
  | .local _ .vmem, ⟨3, _⟩ => ⟨S1x8x1024, .f32⟩
  | .local _ .vmem, ⟨4, _⟩ => ⟨S320x1024, .fp8e4m3⟩
  | .local _ .vmem, ⟨5, _⟩ => ⟨S3x8, .f32⟩
  | .local _ .vmem, ⟨6, _⟩ => ⟨S256x1, .f32⟩
  | .local _ .vmem, ⟨7, _⟩ => ⟨S32x128, .f32⟩
  | .local _ .vmem, ⟨8, _⟩ => ⟨S1x64x1024, .bf16⟩
  | .local _ .vmem, ⟨9, _⟩ => ⟨S1x64x1024, .bf16⟩
  | .local _ .vmem, ⟨10, _⟩ => ⟨S1x1024x256, .fp8e4m3⟩
  | .local _ .vmem, ⟨11, _⟩ => ⟨S1x1024x256, .fp8e4m3⟩
  | .local _ .vmem, ⟨12, _⟩ => ⟨S1x2x1024, .f32⟩
  | .local _ .vmem, ⟨13, _⟩ => ⟨S1x2x1024, .f32⟩
  | .local _ .vmem, ⟨14, _⟩ => ⟨S320x1024, .bf16⟩
  | .local _ .vmem, ⟨15, _⟩ => ⟨S32x24704, .f32⟩
  | .local _ .vmem, ⟨16, _⟩ => ⟨S32x24704, .f32⟩
  | .local _ .vmem, ⟨17, _⟩ => ⟨S64x128, .f32⟩
  | .local _ .smem, ⟨0, _⟩ => ⟨S10, .i32⟩
  | _, _ => ⟨S10x16384x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [BitOps F]

abbrev grid0 : Pipeline.Grid := ⟨2, ![10, 16], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_820 : BitVec 32 := 0#32
  let c193_i32 : BitVec 32 := 193#32
  let v1955 : BitVec 32 := Scalar.addi c0_i32_820 c193_i32
  let c1_i32_821 : BitVec 32 := 1#32
  ⟨c0_i32_820, v1955, c1_i32_821⟩
def k0_mult1 (k0_t1 : Fin k0_t1_loop.trips) : BitVec 32 :=
  let c0_i32_820 : BitVec 32 := 0#32
  let c1_i32_821 : BitVec 32 := 1#32
  let arg16 : BitVec 32 := Scf.iv c0_i32_820 c1_i32_821 k0_t1
  let c128_i32_848 : BitVec 32 := 128#32
  let v2027 : BitVec 32 := Scalar.muli arg16 c128_i32_848
  v2027
def k0_off1 (k0_t1 : Fin k0_t1_loop.trips) : Fin 2 → Nat :=
  let c0_849 : Index := 0#32
  let c0_i32_820 : BitVec 32 := 0#32
  let c1_i32_821 : BitVec 32 := 1#32
  let arg16 : BitVec 32 := Scf.iv c0_i32_820 c1_i32_821 k0_t1
  let c128_i32_848 : BitVec 32 := 128#32
  let v2027 : BitVec 32 := Scalar.muli arg16 c128_i32_848
  let v2028 : BitVec 32 := v2027
  let v2029 : Index := Scalar.indexCast v2028
  ![0, v2029.toNat]
def k0_off2 (i : grid0.Coords) : Fin 1 → Nat :=
  let arg0 : BitVec 32 := BitVec.ofNat 32 (i 0).val
  let v286 : Index := Scalar.indexCast arg0
  ![v286.toNat]
def k0_mult2 (i : grid0.Coords) (v287 : BitVec 32) : BitVec 32 :=
  let arg1 : BitVec 32 := BitVec.ofNat 32 (i 1).val
  let c1024_i32 : BitVec 32 := 1024#32
  let v288 : BitVec 32 := Scalar.muli arg1 c1024_i32
  let v289 : BitVec 32 := Scalar.addi v287 v288
  let c0_i32_92 : BitVec 32 := 0#32
  let v290 : BitVec 32 := Scalar.addi v289 c0_i32_92
  let c0_i32_94 : BitVec 32 := 0#32
  let v292 : BitVec 1 := Scalar.cmpi .sgt v290 c0_i32_94
  let v293 : BitVec 32 := Scalar.extui v292
  let c0_i32_95 : BitVec 32 := 0#32
  let v294 : BitVec 1 := Scalar.cmpi .slt v290 c0_i32_95
  let v295 : BitVec 32 := Scalar.extui v294
  let v296 : BitVec 32 := Scalar.subi v293 v295
  let c128_i32_93 : BitVec 32 := 128#32
  let c0_i32_96 : BitVec 32 := 0#32
  let v297 : BitVec 1 := Scalar.cmpi .sgt c128_i32_93 c0_i32_96
  let v298 : BitVec 32 := Scalar.extui v297
  let c0_i32_97 : BitVec 32 := 0#32
  let v299 : BitVec 1 := Scalar.cmpi .slt c128_i32_93 c0_i32_97
  let v300 : BitVec 32 := Scalar.extui v299
  let v301 : BitVec 32 := Scalar.subi v298 v300
  let v302 : BitVec 1 := Scalar.cmpi .ne v296 v301
  let v303 : BitVec 32 := Scalar.remsi v290 c128_i32_93
  let c0_i32_98 : BitVec 32 := 0#32
  let v304 : BitVec 1 := Scalar.cmpi .ne v303 c0_i32_98
  let v305 : BitVec 1 := Scalar.andi v302 v304
  let v291 : BitVec 32 := Scalar.divsi v290 c128_i32_93
  let c1_i32_99 : BitVec 32 := 1#32
  let v306 : BitVec 32 := Scalar.subi v291 c1_i32_99
  let v307 : BitVec 32 := Scalar.select v305 v306 v291
  let c128_i32_100 : BitVec 32 := 128#32
  let v308 : BitVec 32 := Scalar.muli v307 c128_i32_100
  v308

def k0_off3 (i : grid0.Coords) (v287 : BitVec 32) (c0_i32_108 : BitVec 32) : Fin 2 → Nat :=
  let c0_109 : Index := 0#32
  let arg1 : BitVec 32 := BitVec.ofNat 32 (i 1).val
  let c1024_i32 : BitVec 32 := 1024#32
  let v288 : BitVec 32 := Scalar.muli arg1 c1024_i32
  let v289 : BitVec 32 := Scalar.addi v287 v288
  let c0_i32_92 : BitVec 32 := 0#32
  let v290 : BitVec 32 := Scalar.addi v289 c0_i32_92
  let c0_i32_94 : BitVec 32 := 0#32
  let v292 : BitVec 1 := Scalar.cmpi .sgt v290 c0_i32_94
  let v293 : BitVec 32 := Scalar.extui v292
  let c0_i32_95 : BitVec 32 := 0#32
  let v294 : BitVec 1 := Scalar.cmpi .slt v290 c0_i32_95
  let v295 : BitVec 32 := Scalar.extui v294
  let v296 : BitVec 32 := Scalar.subi v293 v295
  let c128_i32_93 : BitVec 32 := 128#32
  let c0_i32_96 : BitVec 32 := 0#32
  let v297 : BitVec 1 := Scalar.cmpi .sgt c128_i32_93 c0_i32_96
  let v298 : BitVec 32 := Scalar.extui v297
  let c0_i32_97 : BitVec 32 := 0#32
  let v299 : BitVec 1 := Scalar.cmpi .slt c128_i32_93 c0_i32_97
  let v300 : BitVec 32 := Scalar.extui v299
  let v301 : BitVec 32 := Scalar.subi v298 v300
  let v302 : BitVec 1 := Scalar.cmpi .ne v296 v301
  let v303 : BitVec 32 := Scalar.remsi v290 c128_i32_93
  let c0_i32_98 : BitVec 32 := 0#32
  let v304 : BitVec 1 := Scalar.cmpi .ne v303 c0_i32_98
  let v305 : BitVec 1 := Scalar.andi v302 v304
  let v291 : BitVec 32 := Scalar.divsi v290 c128_i32_93
  let c1_i32_99 : BitVec 32 := 1#32
  let v306 : BitVec 32 := Scalar.subi v291 c1_i32_99
  let v307 : BitVec 32 := Scalar.select v305 v306 v291
  let c128_i32_100 : BitVec 32 := 128#32
  let v308 : BitVec 32 := Scalar.muli v307 c128_i32_100
  let v309 : BitVec 32 := v308
  let v323 : BitVec 32 := Scalar.addi v309 c0_i32_108
  let v324 : Index := Scalar.indexCast v323
  ![0, v324.toNat]
def k0_mult3 (i : grid0.Coords) (v287 : BitVec 32) : BitVec 32 :=
  let arg1 : BitVec 32 := BitVec.ofNat 32 (i 1).val
  let c1024_i32 : BitVec 32 := 1024#32
  let v288 : BitVec 32 := Scalar.muli arg1 c1024_i32
  let v289 : BitVec 32 := Scalar.addi v287 v288
  let c0_i32_92 : BitVec 32 := 0#32
  let v290 : BitVec 32 := Scalar.addi v289 c0_i32_92
  let c0_i32_115 : BitVec 32 := 0#32
  let v342 : BitVec 1 := Scalar.cmpi .sgt v290 c0_i32_115
  let v343 : BitVec 32 := Scalar.extui v342
  let c0_i32_116 : BitVec 32 := 0#32
  let v344 : BitVec 1 := Scalar.cmpi .slt v290 c0_i32_116
  let v345 : BitVec 32 := Scalar.extui v344
  let v346 : BitVec 32 := Scalar.subi v343 v345
  let c128_i32_114 : BitVec 32 := 128#32
  let c0_i32_117 : BitVec 32 := 0#32
  let v347 : BitVec 1 := Scalar.cmpi .sgt c128_i32_114 c0_i32_117
  let v348 : BitVec 32 := Scalar.extui v347
  let c0_i32_118 : BitVec 32 := 0#32
  let v349 : BitVec 1 := Scalar.cmpi .slt c128_i32_114 c0_i32_118
  let v350 : BitVec 32 := Scalar.extui v349
  let v351 : BitVec 32 := Scalar.subi v348 v350
  let v352 : BitVec 1 := Scalar.cmpi .ne v346 v351
  let v353 : BitVec 32 := Scalar.remsi v290 c128_i32_114
  let c0_i32_119 : BitVec 32 := 0#32
  let v354 : BitVec 1 := Scalar.cmpi .ne v353 c0_i32_119
  let v355 : BitVec 1 := Scalar.andi v352 v354
  let v341 : BitVec 32 := Scalar.divsi v290 c128_i32_114
  let c1_i32_120 : BitVec 32 := 1#32
  let v356 : BitVec 32 := Scalar.subi v341 c1_i32_120
  let v357 : BitVec 32 := Scalar.select v355 v356 v341
  let c128_i32_121 : BitVec 32 := 128#32
  let v358 : BitVec 32 := Scalar.muli v357 c128_i32_121
  v358

def k0_chk1 (i : grid0.Coords) (v287 : BitVec 32) : Prop :=
  (128 ∣ (k0_mult2 i v287).toNat) ∧
  (∀ (r : Fin 3), ∀ a, (k0_off3 i v287 (BitVec.ofNat 32 (128 * r.val))) a + S32x128.size a ≤ S32x24704.size a) ∧
  (128 ∣ (k0_mult3 i v287).toNat)
theorem k0_mult2_dvd : ∀ (i : grid0.Coords) (v287 : BitVec 32) (k0_hw1 : k0_chk1 i v287), 128 ∣ (k0_mult2 i v287).toNat := fun i v287 k0_hw1 => k0_hw1.1
theorem k0_off3_inb : ∀ (i : grid0.Coords) (v287 : BitVec 32) (k0_hw1 : k0_chk1 i v287), ∀ (r : Fin 3), ∀ a, (k0_off3 i v287 (BitVec.ofNat 32 (128 * r.val))) a + S32x128.size a ≤ S32x24704.size a := fun i v287 k0_hw1 r => k0_hw1.2.1 r
theorem k0_mult3_dvd : ∀ (i : grid0.Coords) (v287 : BitVec 32) (k0_hw1 : k0_chk1 i v287), 128 ∣ (k0_mult3 i v287).toNat := fun i v287 k0_hw1 => k0_hw1.2.2

def k0_off4 (i : grid0.Coords) : Fin 1 → Nat :=
  let arg0 : BitVec 32 := BitVec.ofNat 32 (i 0).val
  let v689 : Index := Scalar.indexCast arg0
  ![v689.toNat]
def k0_mult4 (i : grid0.Coords) (v690 : BitVec 32) : BitVec 32 :=
  let arg1 : BitVec 32 := BitVec.ofNat 32 (i 1).val
  let c1024_i32_250 : BitVec 32 := 1024#32
  let v691 : BitVec 32 := Scalar.muli arg1 c1024_i32_250
  let v692 : BitVec 32 := Scalar.addi v690 v691
  let c256_i32_251 : BitVec 32 := 256#32
  let v693 : BitVec 32 := Scalar.addi v692 c256_i32_251
  let c0_i32_253 : BitVec 32 := 0#32
  let v695 : BitVec 1 := Scalar.cmpi .sgt v693 c0_i32_253
  let v696 : BitVec 32 := Scalar.extui v695
  let c0_i32_254 : BitVec 32 := 0#32
  let v697 : BitVec 1 := Scalar.cmpi .slt v693 c0_i32_254
  let v698 : BitVec 32 := Scalar.extui v697
  let v699 : BitVec 32 := Scalar.subi v696 v698
  let c128_i32_252 : BitVec 32 := 128#32
  let c0_i32_255 : BitVec 32 := 0#32
  let v700 : BitVec 1 := Scalar.cmpi .sgt c128_i32_252 c0_i32_255
  let v701 : BitVec 32 := Scalar.extui v700
  let c0_i32_256 : BitVec 32 := 0#32
  let v702 : BitVec 1 := Scalar.cmpi .slt c128_i32_252 c0_i32_256
  let v703 : BitVec 32 := Scalar.extui v702
  let v704 : BitVec 32 := Scalar.subi v701 v703
  let v705 : BitVec 1 := Scalar.cmpi .ne v699 v704
  let v706 : BitVec 32 := Scalar.remsi v693 c128_i32_252
  let c0_i32_257 : BitVec 32 := 0#32
  let v707 : BitVec 1 := Scalar.cmpi .ne v706 c0_i32_257
  let v708 : BitVec 1 := Scalar.andi v705 v707
  let v694 : BitVec 32 := Scalar.divsi v693 c128_i32_252
  let c1_i32_258 : BitVec 32 := 1#32
  let v709 : BitVec 32 := Scalar.subi v694 c1_i32_258
  let v710 : BitVec 32 := Scalar.select v708 v709 v694
  let c128_i32_259 : BitVec 32 := 128#32
  let v711 : BitVec 32 := Scalar.muli v710 c128_i32_259
  v711

def k0_off5 (i : grid0.Coords) (v690 : BitVec 32) (c0_i32_267 : BitVec 32) : Fin 2 → Nat :=
  let c0_268 : Index := 0#32
  let arg1 : BitVec 32 := BitVec.ofNat 32 (i 1).val
  let c1024_i32_250 : BitVec 32 := 1024#32
  let v691 : BitVec 32 := Scalar.muli arg1 c1024_i32_250
  let v692 : BitVec 32 := Scalar.addi v690 v691
  let c256_i32_251 : BitVec 32 := 256#32
  let v693 : BitVec 32 := Scalar.addi v692 c256_i32_251
  let c0_i32_253 : BitVec 32 := 0#32
  let v695 : BitVec 1 := Scalar.cmpi .sgt v693 c0_i32_253
  let v696 : BitVec 32 := Scalar.extui v695
  let c0_i32_254 : BitVec 32 := 0#32
  let v697 : BitVec 1 := Scalar.cmpi .slt v693 c0_i32_254
  let v698 : BitVec 32 := Scalar.extui v697
  let v699 : BitVec 32 := Scalar.subi v696 v698
  let c128_i32_252 : BitVec 32 := 128#32
  let c0_i32_255 : BitVec 32 := 0#32
  let v700 : BitVec 1 := Scalar.cmpi .sgt c128_i32_252 c0_i32_255
  let v701 : BitVec 32 := Scalar.extui v700
  let c0_i32_256 : BitVec 32 := 0#32
  let v702 : BitVec 1 := Scalar.cmpi .slt c128_i32_252 c0_i32_256
  let v703 : BitVec 32 := Scalar.extui v702
  let v704 : BitVec 32 := Scalar.subi v701 v703
  let v705 : BitVec 1 := Scalar.cmpi .ne v699 v704
  let v706 : BitVec 32 := Scalar.remsi v693 c128_i32_252
  let c0_i32_257 : BitVec 32 := 0#32
  let v707 : BitVec 1 := Scalar.cmpi .ne v706 c0_i32_257
  let v708 : BitVec 1 := Scalar.andi v705 v707
  let v694 : BitVec 32 := Scalar.divsi v693 c128_i32_252
  let c1_i32_258 : BitVec 32 := 1#32
  let v709 : BitVec 32 := Scalar.subi v694 c1_i32_258
  let v710 : BitVec 32 := Scalar.select v708 v709 v694
  let c128_i32_259 : BitVec 32 := 128#32
  let v711 : BitVec 32 := Scalar.muli v710 c128_i32_259
  let v712 : BitVec 32 := v711
  let v726 : BitVec 32 := Scalar.addi v712 c0_i32_267
  let v727 : Index := Scalar.indexCast v726
  ![0, v727.toNat]
def k0_mult5 (i : grid0.Coords) (v690 : BitVec 32) : BitVec 32 :=
  let arg1 : BitVec 32 := BitVec.ofNat 32 (i 1).val
  let c1024_i32_250 : BitVec 32 := 1024#32
  let v691 : BitVec 32 := Scalar.muli arg1 c1024_i32_250
  let v692 : BitVec 32 := Scalar.addi v690 v691
  let c256_i32_251 : BitVec 32 := 256#32
  let v693 : BitVec 32 := Scalar.addi v692 c256_i32_251
  let c0_i32_275 : BitVec 32 := 0#32
  let v745 : BitVec 1 := Scalar.cmpi .sgt v693 c0_i32_275
  let v746 : BitVec 32 := Scalar.extui v745
  let c0_i32_276 : BitVec 32 := 0#32
  let v747 : BitVec 1 := Scalar.cmpi .slt v693 c0_i32_276
  let v748 : BitVec 32 := Scalar.extui v747
  let v749 : BitVec 32 := Scalar.subi v746 v748
  let c128_i32_274 : BitVec 32 := 128#32
  let c0_i32_277 : BitVec 32 := 0#32
  let v750 : BitVec 1 := Scalar.cmpi .sgt c128_i32_274 c0_i32_277
  let v751 : BitVec 32 := Scalar.extui v750
  let c0_i32_278 : BitVec 32 := 0#32
  let v752 : BitVec 1 := Scalar.cmpi .slt c128_i32_274 c0_i32_278
  let v753 : BitVec 32 := Scalar.extui v752
  let v754 : BitVec 32 := Scalar.subi v751 v753
  let v755 : BitVec 1 := Scalar.cmpi .ne v749 v754
  let v756 : BitVec 32 := Scalar.remsi v693 c128_i32_274
  let c0_i32_279 : BitVec 32 := 0#32
  let v757 : BitVec 1 := Scalar.cmpi .ne v756 c0_i32_279
  let v758 : BitVec 1 := Scalar.andi v755 v757
  let v744 : BitVec 32 := Scalar.divsi v693 c128_i32_274
  let c1_i32_280 : BitVec 32 := 1#32
  let v759 : BitVec 32 := Scalar.subi v744 c1_i32_280
  let v760 : BitVec 32 := Scalar.select v758 v759 v744
  let c128_i32_281 : BitVec 32 := 128#32
  let v761 : BitVec 32 := Scalar.muli v760 c128_i32_281
  v761

def k0_chk2 (i : grid0.Coords) (v690 : BitVec 32) : Prop :=
  (128 ∣ (k0_mult4 i v690).toNat) ∧
  (∀ (r : Fin 3), ∀ a, (k0_off5 i v690 (BitVec.ofNat 32 (128 * r.val))) a + S32x128.size a ≤ S32x24704.size a) ∧
  (128 ∣ (k0_mult5 i v690).toNat)
theorem k0_mult4_dvd : ∀ (i : grid0.Coords) (v690 : BitVec 32) (k0_hw2 : k0_chk2 i v690), 128 ∣ (k0_mult4 i v690).toNat := fun i v690 k0_hw2 => k0_hw2.1
theorem k0_off5_inb : ∀ (i : grid0.Coords) (v690 : BitVec 32) (k0_hw2 : k0_chk2 i v690), ∀ (r : Fin 3), ∀ a, (k0_off5 i v690 (BitVec.ofNat 32 (128 * r.val))) a + S32x128.size a ≤ S32x24704.size a := fun i v690 k0_hw2 r => k0_hw2.2.1 r
theorem k0_mult5_dvd : ∀ (i : grid0.Coords) (v690 : BitVec 32) (k0_hw2 : k0_chk2 i v690), 128 ∣ (k0_mult5 i v690).toNat := fun i v690 k0_hw2 => k0_hw2.2.2

def k0_off6 (i : grid0.Coords) : Fin 1 → Nat :=
  let arg0 : BitVec 32 := BitVec.ofNat 32 (i 0).val
  let v1092 : Index := Scalar.indexCast arg0
  ![v1092.toNat]
def k0_mult6 (i : grid0.Coords) (v1093 : BitVec 32) : BitVec 32 :=
  let arg1 : BitVec 32 := BitVec.ofNat 32 (i 1).val
  let c1024_i32_410 : BitVec 32 := 1024#32
  let v1094 : BitVec 32 := Scalar.muli arg1 c1024_i32_410
  let v1095 : BitVec 32 := Scalar.addi v1093 v1094
  let c512_i32 : BitVec 32 := 512#32
  let v1096 : BitVec 32 := Scalar.addi v1095 c512_i32
  let c0_i32_412 : BitVec 32 := 0#32
  let v1098 : BitVec 1 := Scalar.cmpi .sgt v1096 c0_i32_412
  let v1099 : BitVec 32 := Scalar.extui v1098
  let c0_i32_413 : BitVec 32 := 0#32
  let v1100 : BitVec 1 := Scalar.cmpi .slt v1096 c0_i32_413
  let v1101 : BitVec 32 := Scalar.extui v1100
  let v1102 : BitVec 32 := Scalar.subi v1099 v1101
  let c128_i32_411 : BitVec 32 := 128#32
  let c0_i32_414 : BitVec 32 := 0#32
  let v1103 : BitVec 1 := Scalar.cmpi .sgt c128_i32_411 c0_i32_414
  let v1104 : BitVec 32 := Scalar.extui v1103
  let c0_i32_415 : BitVec 32 := 0#32
  let v1105 : BitVec 1 := Scalar.cmpi .slt c128_i32_411 c0_i32_415
  let v1106 : BitVec 32 := Scalar.extui v1105
  let v1107 : BitVec 32 := Scalar.subi v1104 v1106
  let v1108 : BitVec 1 := Scalar.cmpi .ne v1102 v1107
  let v1109 : BitVec 32 := Scalar.remsi v1096 c128_i32_411
  let c0_i32_416 : BitVec 32 := 0#32
  let v1110 : BitVec 1 := Scalar.cmpi .ne v1109 c0_i32_416
  let v1111 : BitVec 1 := Scalar.andi v1108 v1110
  let v1097 : BitVec 32 := Scalar.divsi v1096 c128_i32_411
  let c1_i32_417 : BitVec 32 := 1#32
  let v1112 : BitVec 32 := Scalar.subi v1097 c1_i32_417
  let v1113 : BitVec 32 := Scalar.select v1111 v1112 v1097
  let c128_i32_418 : BitVec 32 := 128#32
  let v1114 : BitVec 32 := Scalar.muli v1113 c128_i32_418
  v1114

def k0_off7 (i : grid0.Coords) (v1093 : BitVec 32) (c0_i32_426 : BitVec 32) : Fin 2 → Nat :=
  let c0_427 : Index := 0#32
  let arg1 : BitVec 32 := BitVec.ofNat 32 (i 1).val
  let c1024_i32_410 : BitVec 32 := 1024#32
  let v1094 : BitVec 32 := Scalar.muli arg1 c1024_i32_410
  let v1095 : BitVec 32 := Scalar.addi v1093 v1094
  let c512_i32 : BitVec 32 := 512#32
  let v1096 : BitVec 32 := Scalar.addi v1095 c512_i32
  let c0_i32_412 : BitVec 32 := 0#32
  let v1098 : BitVec 1 := Scalar.cmpi .sgt v1096 c0_i32_412
  let v1099 : BitVec 32 := Scalar.extui v1098
  let c0_i32_413 : BitVec 32 := 0#32
  let v1100 : BitVec 1 := Scalar.cmpi .slt v1096 c0_i32_413
  let v1101 : BitVec 32 := Scalar.extui v1100
  let v1102 : BitVec 32 := Scalar.subi v1099 v1101
  let c128_i32_411 : BitVec 32 := 128#32
  let c0_i32_414 : BitVec 32 := 0#32
  let v1103 : BitVec 1 := Scalar.cmpi .sgt c128_i32_411 c0_i32_414
  let v1104 : BitVec 32 := Scalar.extui v1103
  let c0_i32_415 : BitVec 32 := 0#32
  let v1105 : BitVec 1 := Scalar.cmpi .slt c128_i32_411 c0_i32_415
  let v1106 : BitVec 32 := Scalar.extui v1105
  let v1107 : BitVec 32 := Scalar.subi v1104 v1106
  let v1108 : BitVec 1 := Scalar.cmpi .ne v1102 v1107
  let v1109 : BitVec 32 := Scalar.remsi v1096 c128_i32_411
  let c0_i32_416 : BitVec 32 := 0#32
  let v1110 : BitVec 1 := Scalar.cmpi .ne v1109 c0_i32_416
  let v1111 : BitVec 1 := Scalar.andi v1108 v1110
  let v1097 : BitVec 32 := Scalar.divsi v1096 c128_i32_411
  let c1_i32_417 : BitVec 32 := 1#32
  let v1112 : BitVec 32 := Scalar.subi v1097 c1_i32_417
  let v1113 : BitVec 32 := Scalar.select v1111 v1112 v1097
  let c128_i32_418 : BitVec 32 := 128#32
  let v1114 : BitVec 32 := Scalar.muli v1113 c128_i32_418
  let v1115 : BitVec 32 := v1114
  let v1129 : BitVec 32 := Scalar.addi v1115 c0_i32_426
  let v1130 : Index := Scalar.indexCast v1129
  ![0, v1130.toNat]
def k0_mult7 (i : grid0.Coords) (v1093 : BitVec 32) : BitVec 32 :=
  let arg1 : BitVec 32 := BitVec.ofNat 32 (i 1).val
  let c1024_i32_410 : BitVec 32 := 1024#32
  let v1094 : BitVec 32 := Scalar.muli arg1 c1024_i32_410
  let v1095 : BitVec 32 := Scalar.addi v1093 v1094
  let c512_i32 : BitVec 32 := 512#32
  let v1096 : BitVec 32 := Scalar.addi v1095 c512_i32
  let c0_i32_434 : BitVec 32 := 0#32
  let v1148 : BitVec 1 := Scalar.cmpi .sgt v1096 c0_i32_434
  let v1149 : BitVec 32 := Scalar.extui v1148
  let c0_i32_435 : BitVec 32 := 0#32
  let v1150 : BitVec 1 := Scalar.cmpi .slt v1096 c0_i32_435
  let v1151 : BitVec 32 := Scalar.extui v1150
  let v1152 : BitVec 32 := Scalar.subi v1149 v1151
  let c128_i32_433 : BitVec 32 := 128#32
  let c0_i32_436 : BitVec 32 := 0#32
  let v1153 : BitVec 1 := Scalar.cmpi .sgt c128_i32_433 c0_i32_436
  let v1154 : BitVec 32 := Scalar.extui v1153
  let c0_i32_437 : BitVec 32 := 0#32
  let v1155 : BitVec 1 := Scalar.cmpi .slt c128_i32_433 c0_i32_437
  let v1156 : BitVec 32 := Scalar.extui v1155
  let v1157 : BitVec 32 := Scalar.subi v1154 v1156
  let v1158 : BitVec 1 := Scalar.cmpi .ne v1152 v1157
  let v1159 : BitVec 32 := Scalar.remsi v1096 c128_i32_433
  let c0_i32_438 : BitVec 32 := 0#32
  let v1160 : BitVec 1 := Scalar.cmpi .ne v1159 c0_i32_438
  let v1161 : BitVec 1 := Scalar.andi v1158 v1160
  let v1147 : BitVec 32 := Scalar.divsi v1096 c128_i32_433
  let c1_i32_439 : BitVec 32 := 1#32
  let v1162 : BitVec 32 := Scalar.subi v1147 c1_i32_439
  let v1163 : BitVec 32 := Scalar.select v1161 v1162 v1147
  let c128_i32_440 : BitVec 32 := 128#32
  let v1164 : BitVec 32 := Scalar.muli v1163 c128_i32_440
  v1164

def k0_chk3 (i : grid0.Coords) (v1093 : BitVec 32) : Prop :=
  (128 ∣ (k0_mult6 i v1093).toNat) ∧
  (∀ (r : Fin 3), ∀ a, (k0_off7 i v1093 (BitVec.ofNat 32 (128 * r.val))) a + S32x128.size a ≤ S32x24704.size a) ∧
  (128 ∣ (k0_mult7 i v1093).toNat)
theorem k0_mult6_dvd : ∀ (i : grid0.Coords) (v1093 : BitVec 32) (k0_hw3 : k0_chk3 i v1093), 128 ∣ (k0_mult6 i v1093).toNat := fun i v1093 k0_hw3 => k0_hw3.1
theorem k0_off7_inb : ∀ (i : grid0.Coords) (v1093 : BitVec 32) (k0_hw3 : k0_chk3 i v1093), ∀ (r : Fin 3), ∀ a, (k0_off7 i v1093 (BitVec.ofNat 32 (128 * r.val))) a + S32x128.size a ≤ S32x24704.size a := fun i v1093 k0_hw3 r => k0_hw3.2.1 r
theorem k0_mult7_dvd : ∀ (i : grid0.Coords) (v1093 : BitVec 32) (k0_hw3 : k0_chk3 i v1093), 128 ∣ (k0_mult7 i v1093).toNat := fun i v1093 k0_hw3 => k0_hw3.2.2

def k0_off8 (i : grid0.Coords) : Fin 1 → Nat :=
  let arg0 : BitVec 32 := BitVec.ofNat 32 (i 0).val
  let v1495 : Index := Scalar.indexCast arg0
  ![v1495.toNat]
def k0_mult8 (i : grid0.Coords) (v1496 : BitVec 32) : BitVec 32 :=
  let arg1 : BitVec 32 := BitVec.ofNat 32 (i 1).val
  let c1024_i32_569 : BitVec 32 := 1024#32
  let v1497 : BitVec 32 := Scalar.muli arg1 c1024_i32_569
  let v1498 : BitVec 32 := Scalar.addi v1496 v1497
  let c768_i32 : BitVec 32 := 768#32
  let v1499 : BitVec 32 := Scalar.addi v1498 c768_i32
  let c0_i32_571 : BitVec 32 := 0#32
  let v1501 : BitVec 1 := Scalar.cmpi .sgt v1499 c0_i32_571
  let v1502 : BitVec 32 := Scalar.extui v1501
  let c0_i32_572 : BitVec 32 := 0#32
  let v1503 : BitVec 1 := Scalar.cmpi .slt v1499 c0_i32_572
  let v1504 : BitVec 32 := Scalar.extui v1503
  let v1505 : BitVec 32 := Scalar.subi v1502 v1504
  let c128_i32_570 : BitVec 32 := 128#32
  let c0_i32_573 : BitVec 32 := 0#32
  let v1506 : BitVec 1 := Scalar.cmpi .sgt c128_i32_570 c0_i32_573
  let v1507 : BitVec 32 := Scalar.extui v1506
  let c0_i32_574 : BitVec 32 := 0#32
  let v1508 : BitVec 1 := Scalar.cmpi .slt c128_i32_570 c0_i32_574
  let v1509 : BitVec 32 := Scalar.extui v1508
  let v1510 : BitVec 32 := Scalar.subi v1507 v1509
  let v1511 : BitVec 1 := Scalar.cmpi .ne v1505 v1510
  let v1512 : BitVec 32 := Scalar.remsi v1499 c128_i32_570
  let c0_i32_575 : BitVec 32 := 0#32
  let v1513 : BitVec 1 := Scalar.cmpi .ne v1512 c0_i32_575
  let v1514 : BitVec 1 := Scalar.andi v1511 v1513
  let v1500 : BitVec 32 := Scalar.divsi v1499 c128_i32_570
  let c1_i32_576 : BitVec 32 := 1#32
  let v1515 : BitVec 32 := Scalar.subi v1500 c1_i32_576
  let v1516 : BitVec 32 := Scalar.select v1514 v1515 v1500
  let c128_i32_577 : BitVec 32 := 128#32
  let v1517 : BitVec 32 := Scalar.muli v1516 c128_i32_577
  v1517

def k0_off9 (i : grid0.Coords) (v1496 : BitVec 32) (c0_i32_585 : BitVec 32) : Fin 2 → Nat :=
  let c0_586 : Index := 0#32
  let arg1 : BitVec 32 := BitVec.ofNat 32 (i 1).val
  let c1024_i32_569 : BitVec 32 := 1024#32
  let v1497 : BitVec 32 := Scalar.muli arg1 c1024_i32_569
  let v1498 : BitVec 32 := Scalar.addi v1496 v1497
  let c768_i32 : BitVec 32 := 768#32
  let v1499 : BitVec 32 := Scalar.addi v1498 c768_i32
  let c0_i32_571 : BitVec 32 := 0#32
  let v1501 : BitVec 1 := Scalar.cmpi .sgt v1499 c0_i32_571
  let v1502 : BitVec 32 := Scalar.extui v1501
  let c0_i32_572 : BitVec 32 := 0#32
  let v1503 : BitVec 1 := Scalar.cmpi .slt v1499 c0_i32_572
  let v1504 : BitVec 32 := Scalar.extui v1503
  let v1505 : BitVec 32 := Scalar.subi v1502 v1504
  let c128_i32_570 : BitVec 32 := 128#32
  let c0_i32_573 : BitVec 32 := 0#32
  let v1506 : BitVec 1 := Scalar.cmpi .sgt c128_i32_570 c0_i32_573
  let v1507 : BitVec 32 := Scalar.extui v1506
  let c0_i32_574 : BitVec 32 := 0#32
  let v1508 : BitVec 1 := Scalar.cmpi .slt c128_i32_570 c0_i32_574
  let v1509 : BitVec 32 := Scalar.extui v1508
  let v1510 : BitVec 32 := Scalar.subi v1507 v1509
  let v1511 : BitVec 1 := Scalar.cmpi .ne v1505 v1510
  let v1512 : BitVec 32 := Scalar.remsi v1499 c128_i32_570
  let c0_i32_575 : BitVec 32 := 0#32
  let v1513 : BitVec 1 := Scalar.cmpi .ne v1512 c0_i32_575
  let v1514 : BitVec 1 := Scalar.andi v1511 v1513
  let v1500 : BitVec 32 := Scalar.divsi v1499 c128_i32_570
  let c1_i32_576 : BitVec 32 := 1#32
  let v1515 : BitVec 32 := Scalar.subi v1500 c1_i32_576
  let v1516 : BitVec 32 := Scalar.select v1514 v1515 v1500
  let c128_i32_577 : BitVec 32 := 128#32
  let v1517 : BitVec 32 := Scalar.muli v1516 c128_i32_577
  let v1518 : BitVec 32 := v1517
  let v1532 : BitVec 32 := Scalar.addi v1518 c0_i32_585
  let v1533 : Index := Scalar.indexCast v1532
  ![0, v1533.toNat]
def k0_mult9 (i : grid0.Coords) (v1496 : BitVec 32) : BitVec 32 :=
  let arg1 : BitVec 32 := BitVec.ofNat 32 (i 1).val
  let c1024_i32_569 : BitVec 32 := 1024#32
  let v1497 : BitVec 32 := Scalar.muli arg1 c1024_i32_569
  let v1498 : BitVec 32 := Scalar.addi v1496 v1497
  let c768_i32 : BitVec 32 := 768#32
  let v1499 : BitVec 32 := Scalar.addi v1498 c768_i32
  let c0_i32_593 : BitVec 32 := 0#32
  let v1551 : BitVec 1 := Scalar.cmpi .sgt v1499 c0_i32_593
  let v1552 : BitVec 32 := Scalar.extui v1551
  let c0_i32_594 : BitVec 32 := 0#32
  let v1553 : BitVec 1 := Scalar.cmpi .slt v1499 c0_i32_594
  let v1554 : BitVec 32 := Scalar.extui v1553
  let v1555 : BitVec 32 := Scalar.subi v1552 v1554
  let c128_i32_592 : BitVec 32 := 128#32
  let c0_i32_595 : BitVec 32 := 0#32
  let v1556 : BitVec 1 := Scalar.cmpi .sgt c128_i32_592 c0_i32_595
  let v1557 : BitVec 32 := Scalar.extui v1556
  let c0_i32_596 : BitVec 32 := 0#32
  let v1558 : BitVec 1 := Scalar.cmpi .slt c128_i32_592 c0_i32_596
  let v1559 : BitVec 32 := Scalar.extui v1558
  let v1560 : BitVec 32 := Scalar.subi v1557 v1559
  let v1561 : BitVec 1 := Scalar.cmpi .ne v1555 v1560
  let v1562 : BitVec 32 := Scalar.remsi v1499 c128_i32_592
  let c0_i32_597 : BitVec 32 := 0#32
  let v1563 : BitVec 1 := Scalar.cmpi .ne v1562 c0_i32_597
  let v1564 : BitVec 1 := Scalar.andi v1561 v1563
  let v1550 : BitVec 32 := Scalar.divsi v1499 c128_i32_592
  let c1_i32_598 : BitVec 32 := 1#32
  let v1565 : BitVec 32 := Scalar.subi v1550 c1_i32_598
  let v1566 : BitVec 32 := Scalar.select v1564 v1565 v1550
  let c128_i32_599 : BitVec 32 := 128#32
  let v1567 : BitVec 32 := Scalar.muli v1566 c128_i32_599
  v1567

def k0_chk4 (i : grid0.Coords) (v1496 : BitVec 32) : Prop :=
  (128 ∣ (k0_mult8 i v1496).toNat) ∧
  (∀ (r : Fin 3), ∀ a, (k0_off9 i v1496 (BitVec.ofNat 32 (128 * r.val))) a + S32x128.size a ≤ S32x24704.size a) ∧
  (128 ∣ (k0_mult9 i v1496).toNat)
theorem k0_mult8_dvd : ∀ (i : grid0.Coords) (v1496 : BitVec 32) (k0_hw4 : k0_chk4 i v1496), 128 ∣ (k0_mult8 i v1496).toNat := fun i v1496 k0_hw4 => k0_hw4.1
theorem k0_off9_inb : ∀ (i : grid0.Coords) (v1496 : BitVec 32) (k0_hw4 : k0_chk4 i v1496), ∀ (r : Fin 3), ∀ a, (k0_off9 i v1496 (BitVec.ofNat 32 (128 * r.val))) a + S32x128.size a ≤ S32x24704.size a := fun i v1496 k0_hw4 r => k0_hw4.2.1 r
theorem k0_mult9_dvd : ∀ (i : grid0.Coords) (v1496 : BitVec 32) (k0_hw4 : k0_chk4 i v1496), 128 ∣ (k0_mult9 i v1496).toNat := fun i v1496 k0_hw4 => k0_hw4.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S320x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F]
-- ==== ReferenceIdeal.lean ====
abbrev S10x16384x1024 : Shape := ⟨3, ![10, 16384, 1024]⟩
abbrev S10x16384x8 : Shape := ⟨3, ![10, 16384, 8]⟩
abbrev S1024x320 : Shape := ⟨2, ![1024, 320]⟩
abbrev S8x3 : Shape := ⟨2, ![8, 3]⟩
abbrev S256 : Shape := ⟨1, ![256]⟩
abbrev S10 : Shape := ⟨1, ![10]⟩
abbrev S10x16384x256 : Shape := ⟨3, ![10, 16384, 256]⟩
abbrev S10x2x16384 : Shape := ⟨3, ![10, 2, 16384]⟩
abbrev S10x16384x8x128 : Shape := ⟨4, ![10, 16384, 8, 128]⟩
abbrev S10x16384x8x1 : Shape := ⟨4, ![10, 16384, 8, 1]⟩
abbrev S8x1x3x1 : Shape := ⟨4, ![8, 1, 3, 1]⟩
abbrev S8x128x3x128 : Shape := ⟨4, ![8, 128, 3, 128]⟩
abbrev S1024x384 : Shape := ⟨2, ![1024, 384]⟩
abbrev S163840x1024 : Shape := ⟨2, ![163840, 1024]⟩
abbrev S163840x320 : Shape := ⟨2, ![163840, 320]⟩
abbrev S163840x256 : Shape := ⟨2, ![163840, 256]⟩
abbrev S163840 : Shape := ⟨1, ![163840]⟩
abbrev S163840x1 : Shape := ⟨2, ![163840, 1]⟩
abbrev S1x256 : Shape := ⟨2, ![1, 256]⟩
abbrev S10x16384x2x128 : Shape := ⟨4, ![10, 16384, 2, 128]⟩
abbrev S10x16384x2 : Shape := ⟨3, ![10, 16384, 2]⟩
abbrev S10x16384x2x1 : Shape := ⟨4, ![10, 16384, 2, 1]⟩

abbrev nBuf : Space → Nat
  | .hbm => 8
  | .vmem => 7
  | .smem => 0
  | _ => 0

abbrev bufTy : (tb : Table) → Fin (tcTables nBuf tb) → BufTy
  | .hbm, ⟨0, _⟩ => ⟨S10x16384x1024, .fp8e4m3⟩
  | .hbm, ⟨1, _⟩ => ⟨S10x16384x8, .f32⟩
  | .hbm, ⟨2, _⟩ => ⟨S1024x320, .fp8e4m3⟩
  | .hbm, ⟨3, _⟩ => ⟨S8x3, .f32⟩
  | .hbm, ⟨4, _⟩ => ⟨S256, .f32⟩
  | .hbm, ⟨5, _⟩ => ⟨S10, .i32⟩
  | .hbm, ⟨6, _⟩ => ⟨S10x16384x256, .fp8e4m3⟩
  | .hbm, ⟨7, _⟩ => ⟨S10x2x16384, .f32⟩
  | .local _ .vmem, ⟨0, _⟩ => ⟨S10x16384x1024, .fp8e4m3⟩
  | .local _ .vmem, ⟨1, _⟩ => ⟨S10x16384x8, .f32⟩
  | .local _ .vmem, ⟨2, _⟩ => ⟨S1024x320, .fp8e4m3⟩
  | .local _ .vmem, ⟨3, _⟩ => ⟨S8x3, .f32⟩
  | .local _ .vmem, ⟨4, _⟩ => ⟨S256, .f32⟩
  | .local _ .vmem, ⟨5, _⟩ => ⟨S10x16384x256, .fp8e4m3⟩
  | .local _ .vmem, ⟨6, _⟩ => ⟨S10x2x16384, .f32⟩
  | _, _ => ⟨S10x16384x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S10x16384x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x16384x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x320 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10x16384x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10x2x16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Bits.Points.lean ====
/-
The schedule of the kernel on its 10 x 16 grid: at which points each window is fetched or written back, and
the staging memrefs and the body as the pipeline calls it at a point.
-/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [BitOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%13)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 2 (fun _ => rfl) (by decide)) (P := 1) (by decide) t).mpr (Nat.mod_one _) : ∀ t : Fin grid0.N, Pipeline.Window.fetchOf grid0 false cc0_transform_1 t = true)
/-- Window 2 (operand 3 (%14)) is fetched at the first point only, at any contents of the tables (its index map reads none). -/
theorem fetch0_2 (a : (pcfg0 (F := F)).Adm) : ∀ t : Fin (cfg0 a).N, ((cfg0 a).win 2).fetch t = true ↔ t.val % 160 = 0 :=
  (fun t => Pipeline.Window.fetchOf_const cc0_transform_2 (fun _ _ => rfl) (n := 160) (by decide) t : ∀ t : Fin grid0.N, Pipeline.Window.fetchOf grid0 false cc0_transform_2 t = true ↔ t.val % 160 = 0)
/-- Window 3 (operand 4 (%15)) is fetched at the first point only, at any contents of the tables (its index map reads none). -/
theorem fetch0_3 (a : (pcfg0 (F := F)).Adm) : ∀ t : Fin (cfg0 a).N, ((cfg0 a).win 3).fetch t = true ↔ t.val % 160 = 0 :=
  (fun t => Pipeline.Window.fetchOf_const cc0_transform_3 (fun _ _ => rfl) (n := 160) (by decide) t : ∀ t : Fin grid0.N, Pipeline.Window.fetchOf grid0 false cc0_transform_3 t = true ↔ t.val % 160 = 0)
/-- Window 4 (operand 5 (%16)) is fetched at the first point only, at any contents of the tables (its index map reads none). -/
theorem fetch0_4 (a : (pcfg0 (F := F)).Adm) : ∀ t : Fin (cfg0 a).N, ((cfg0 a).win 4).fetch t = true ↔ t.val % 160 = 0 :=
  (fun t => Pipeline.Window.fetchOf_const cc0_transform_4 (fun _ _ => rfl) (n := 160) (by decide) t : ∀ t : Fin grid0.N, Pipeline.Window.fetchOf grid0 false cc0_transform_4 t = true ↔ t.val % 160 = 0)
/-- Window 5 (operand 6 (%12)) is fetched at the first point only, at any contents of the tables (its index map reads none). -/
theorem fetch0_5 (a : (pcfg0 (F := F)).Adm) : ∀ t : Fin (cfg0 a).N, ((cfg0 a).win 5).fetch t = true ↔ t.val % 160 = 0 :=
  (fun t => Pipeline.Window.fetchOf_const cc0_transform_5 (fun _ _ => rfl) (n := 160) (by decide) t : ∀ t : Fin grid0.N, Pipeline.Window.fetchOf grid0 false cc0_transform_5 t = true ↔ t.val % 160 = 0)
/-- Window 6 (result 0 (%17#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 2 (fun _ => rfl) (by decide)) (P := 1) (m := 0) (by decide) rfl t).mpr (Nat.mod_one _) : ∀ t : Fin grid0.N, Pipeline.Window.flushOf grid0 true cc0_transform_6 t = true)
/-- Window 7 (result 1 (%17#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 2 (%17#2)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 2 (fun _ => rfl) (by decide)) (P := 1) (m := 0) (by decide) rfl t).mpr (Nat.mod_one _) : ∀ t : Fin grid0.N, Pipeline.Window.flushOf grid0 true cc0_transform_8 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_store (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Kernel.Gen

end
-- ==== Proof.Bits.Runs.lean ====
/-
What the runs of the kernel share: the arrays when the region is entered, the prefetched positions, the
windows' blocks, the branch condition, the side conditions on the position words, the scratch operands and the
invariant that holds them.
-/
module

public import proofs.«01_k».proof.Proof.Gen.Kernel.Launch
public import proofs.«01_k».proof.Proof.Gen.Kernel.Skeleton
public import proofs.«01_k».proof.Proof.Gen.Kernel.Loops
public import proofs.«01_k».proof.Proof.Bits.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle with long axes (`View.cover_of_tiled`) is looked at one coordinate at a time
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S10 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 160 = 0 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 160 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x1024x1024 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x8x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S320x1024 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S3x8 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S32x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1024x256 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x2x1024 .f32 := spec0_8.stage ((cfgM m hO).slots t 8)
abbrev hs0_8 (hO : Ok m) (t : Fin (cfgM m hO).N) : (ms0_8 m hO t).IsWhole := hstage0_8 (((cfgM m hO).slots t 8).cast nbuf0_8)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S10) (k0_off2 (grid0.coords t)) S1.size (k0_off2_inb (grid0.coords t))).toLoadRect (tbl m 0) (Shape.Idx.first (numel1_S1.symm ▸ Nat.one_pos)))
    ∧ k0_chk2 (grid0.coords t) (tbM0_0.view.readAt (Elt F) (Rect.unit (s := S10) (k0_off4 (grid0.coords t)) S1.size (k0_off4_inb (grid0.coords t))).toLoadRect (tbl m 0) (Shape.Idx.first (numel1_S1.symm ▸ Nat.one_pos)))
    ∧ k0_chk3 (grid0.coords t) (tbM0_0.view.readAt (Elt F) (Rect.unit (s := S10) (k0_off6 (grid0.coords t)) S1.size (k0_off6_inb (grid0.coords t))).toLoadRect (tbl m 0) (Shape.Idx.first (numel1_S1.symm ▸ Nat.one_pos)))
    ∧ k0_chk4 (grid0.coords t) (tbM0_0.view.readAt (Elt F) (Rect.unit (s := S10) (k0_off8 (grid0.coords t)) S1.size (k0_off8_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S10) (k0_off2 (grid0.coords t)) S1.size (k0_off2_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S10) (k0_off2 (grid0.coords t)) S1.size (k0_off2_inb (grid0.coords t))).toLoadRect (tbl m 0) (Shape.Idx.first (numel1_S1.symm ▸ Nat.one_pos))) := (hH c t).1
/-- Conjunct 1 of `Gen.Hyps` at point `t`: the side condition `k0_chk2` the body assumes as `k0_hw2`. -/
abbrev Hyps.p1 (m : (ℓ : Loc nD τ sig) → Buf (Elt F) ℓ) (hO : Ok m) (c : Dev nD) (t : Fin (cfgM m hO).N) : Prop :=
  k0_chk2 (grid0.coords t) (tbM0_0.view.readAt (Elt F) (Rect.unit (s := S10) (k0_off4 (grid0.coords t)) S1.size (k0_off4_inb (grid0.coords t))).toLoadRect (tbl m 0) (Shape.Idx.first (numel1_S1.symm ▸ Nat.one_pos)))
variable {m} in
theorem Hyps.c1 {hO : Ok m} (hH : Hyps m hO) (c : Dev nD) (t : Fin (cfgM m hO).N) :
    k0_chk2 (grid0.coords t) (tbM0_0.view.readAt (Elt F) (Rect.unit (s := S10) (k0_off4 (grid0.coords t)) S1.size (k0_off4_inb (grid0.coords t))).toLoadRect (tbl m 0) (Shape.Idx.first (numel1_S1.symm ▸ Nat.one_pos))) := (hH c t).2.1
/-- Conjunct 2 of `Gen.Hyps` at point `t`: the side condition `k0_chk3` the body assumes as `k0_hw3`. -/
abbrev Hyps.p2 (m : (ℓ : Loc nD τ sig) → Buf (Elt F) ℓ) (hO : Ok m) (c : Dev nD) (t : Fin (cfgM m hO).N) : Prop :=
  k0_chk3 (grid0.coords t) (tbM0_0.view.readAt (Elt F) (Rect.unit (s := S10) (k0_off6 (grid0.coords t)) S1.size (k0_off6_inb (grid0.coords t))).toLoadRect (tbl m 0) (Shape.Idx.first (numel1_S1.symm ▸ Nat.one_pos)))
variable {m} in
theorem Hyps.c2 {hO : Ok m} (hH : Hyps m hO) (c : Dev nD) (t : Fin (cfgM m hO).N) :
    k0_chk3 (grid0.coords t) (tbM0_0.view.readAt (Elt F) (Rect.unit (s := S10) (k0_off6 (grid0.coords t)) S1.size (k0_off6_inb (grid0.coords t))).toLoadRect (tbl m 0) (Shape.Idx.first (numel1_S1.symm ▸ Nat.one_pos))) := (hH c t).2.2.1
/-- Conjunct 3 of `Gen.Hyps` at point `t`: the side condition `k0_chk4` the body assumes as `k0_hw4`. -/
abbrev Hyps.p3 (m : (ℓ : Loc nD τ sig) → Buf (Elt F) ℓ) (hO : Ok m) (c : Dev nD) (t : Fin (cfgM m hO).N) : Prop :=
  k0_chk4 (grid0.coords t) (tbM0_0.view.readAt (Elt F) (Rect.unit (s := S10) (k0_off8 (grid0.coords t)) S1.size (k0_off8_inb (grid0.coords t))).toLoadRect (tbl m 0) (Shape.Idx.first (numel1_S1.symm ▸ Nat.one_pos)))
variable {m} in
theorem Hyps.c3 {hO : Ok m} (hH : Hyps m hO) (c : Dev nD) (t : Fin (cfgM m hO).N) :
    k0_chk4 (grid0.coords t) (tbM0_0.view.readAt (Elt F) (Rect.unit (s := S10) (k0_off8 (grid0.coords t)) S1.size (k0_off8_inb (grid0.coords t))).toLoadRect (tbl m 0) (Shape.Idx.first (numel1_S1.symm ▸ Nat.one_pos))) := (hH c t).2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t) :
    Hyps m hO := fun c t =>
  And.intro (p0 c t) (And.intro (p1 c t) (And.intro (p2 c t) (p3 c t)))

/-- The scratch operands: whole scoped buffers of the kernel's own, passed beside the windows. -/
abbrev scM0_0 : Memref sig .tc .vmem S320x1024 .bf16 := Memref.whole cc0_scratch0
abbrev scM0_1 : Memref sig .tc .vmem S32x24704 .f32 := Memref.whole cc0_scratch1
abbrev scM0_2 : Memref sig .tc .vmem S32x24704 .f32 := Memref.whole cc0_scratch2
abbrev scM0_3 : Memref sig .tc .vmem S64x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.Bits.RunA.lean ====
/-
The run of the kernel's body at the first grid point.
-/
module

public import proofs.«01_k».proof.Proof.Bits.Runs

@[expose] public section

-- membership in a rectangle with long axes (`View.cover_of_tiled`) is looked at one coordinate at a time
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2708000 in
/-- The body's triple IN CASE A (`scf.if` 0 taken: points 0): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S1x1024x1024 .fp8e4m3) (harg3 : arg3.IsWhole) (arg4 : Memref sig .tc .vmem S1x8x1024 .f32) (harg4 : arg4.IsWhole) (arg5 : Memref sig .tc .vmem S320x1024 .fp8e4m3) (harg5 : arg5.IsWhole) (arg6 : Memref sig .tc .vmem S3x8 .f32) (harg6 : arg6.IsWhole) (arg7 : Memref sig .tc .vmem S256x1 .f32) (harg7 : arg7.IsWhole) (arg8 : Memref sig .tc .vmem S32x128 .f32) (harg8 : arg8.IsWhole) (arg9 : Memref sig .tc .vmem S1x64x1024 .bf16) (harg9 : arg9.IsWhole) (arg10 : Memref sig .tc .vmem S1x1024x256 .fp8e4m3) (harg10 : arg10.IsWhole) (arg11 : Memref sig .tc .vmem S1x2x1024 .f32) (harg11 : arg11.IsWhole) (arg12 : Memref sig .tc .vmem S320x1024 .bf16) (harg12 : arg12.IsWhole) (arg13 : Memref sig .tc .vmem S32x24704 .f32) (harg13 : arg13.IsWhole) (arg14 : Memref sig .tc .vmem S32x24704 .f32) (harg14 : arg14.IsWhole) (arg15 : Memref sig .tc .vmem S64x128 .f32) (harg15 : arg15.IsWhole) (hc0 : cond0_0 i)
    (x0 : Vec F S1x1024x1024 .fp8e4m3) (x1 : Vec F S1x8x1024 .f32) (x2 : Vec F S320x1024 .fp8e4m3) (x3 : Vec F S3x8 .f32) (x4 : Vec F S256x1 .f32) (x5 : Vec F S32x128 .f32) (xt0 : TbBuf0 (F := F) c tbM0_0) (k0_hw1 : k0_chk1 i (tbM0_0.view.readAt (Elt F) (Rect.unit (s := S10) (k0_off2 i) S1.size (k0_off2_inb i)).toLoadRect xt0 (Shape.Idx.first (numel1_S1.symm ▸ Nat.one_pos)))) (k0_hw2 : k0_chk2 i (tbM0_0.view.readAt (Elt F) (Rect.unit (s := S10) (k0_off4 i) S1.size (k0_off4_inb i)).toLoadRect xt0 (Shape.Idx.first (numel1_S1.symm ▸ Nat.one_pos)))) (k0_hw3 : k0_chk3 i (tbM0_0.view.readAt (Elt F) (Rect.unit (s := S10) (k0_off6 i) S1.size (k0_off6_inb i)).toLoadRect xt0 (Shape.Idx.first (numel1_S1.symm ▸ Nat.one_pos)))) (k0_hw4 : k0_chk4 i (tbM0_0.view.readAt (Elt F) (Rect.unit (s := S10) (k0_off8 i) S1.size (k0_off8_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_store i tbM0_0 htbM0_0 arg3 harg3 arg4 harg4 arg5 harg5 arg6 harg6 arg7 harg7 arg8 harg8 arg9 harg9 arg10 harg10 arg11 harg11 arg12 harg12 arg13 harg13 arg14 harg14 arg15 harg15) K := by
    intro E K
    simp only [cc0_mla_store_eq_skeleton]; unfold cc0_mla_store_skel
    simp only [k0_part11_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact k0_hw1 | sl_exact k0_hw2 | sl_exact k0_hw3 | sl_exact k0_hw4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.Bits.RunB.lean ====
/-
The run of the kernel's body at a later grid point.
-/
module

public import proofs.«01_k».proof.Proof.Bits.RunA

@[expose] public section

-- membership in a rectangle with long axes (`View.cover_of_tiled`) is looked at one coordinate at a time
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1824000 in
/-- The body's triple IN CASE B (`scf.if` 0 not taken: points 1, 2, … 159: 159 of 160): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S1x1024x1024 .fp8e4m3) (harg3 : arg3.IsWhole) (arg4 : Memref sig .tc .vmem S1x8x1024 .f32) (harg4 : arg4.IsWhole) (arg5 : Memref sig .tc .vmem S320x1024 .fp8e4m3) (harg5 : arg5.IsWhole) (arg6 : Memref sig .tc .vmem S3x8 .f32) (harg6 : arg6.IsWhole) (arg7 : Memref sig .tc .vmem S256x1 .f32) (harg7 : arg7.IsWhole) (arg8 : Memref sig .tc .vmem S32x128 .f32) (harg8 : arg8.IsWhole) (arg9 : Memref sig .tc .vmem S1x64x1024 .bf16) (harg9 : arg9.IsWhole) (arg10 : Memref sig .tc .vmem S1x1024x256 .fp8e4m3) (harg10 : arg10.IsWhole) (arg11 : Memref sig .tc .vmem S1x2x1024 .f32) (harg11 : arg11.IsWhole) (arg12 : Memref sig .tc .vmem S320x1024 .bf16) (harg12 : arg12.IsWhole) (arg13 : Memref sig .tc .vmem S32x24704 .f32) (harg13 : arg13.IsWhole) (arg14 : Memref sig .tc .vmem S32x24704 .f32) (harg14 : arg14.IsWhole) (arg15 : Memref sig .tc .vmem S64x128 .f32) (harg15 : arg15.IsWhole) (hc0 : ¬cond0_0 i)
    (x0 : Vec F S1x1024x1024 .fp8e4m3) (x1 : Vec F S1x8x1024 .f32) (x2 : Vec F S320x1024 .fp8e4m3) (x3 : Vec F S3x8 .f32) (x4 : Vec F S256x1 .f32) (x5 : Vec F S32x128 .f32) (xt0 : TbBuf0 (F := F) c tbM0_0) (k0_hw1 : k0_chk1 i (tbM0_0.view.readAt (Elt F) (Rect.unit (s := S10) (k0_off2 i) S1.size (k0_off2_inb i)).toLoadRect xt0 (Shape.Idx.first (numel1_S1.symm ▸ Nat.one_pos)))) (k0_hw2 : k0_chk2 i (tbM0_0.view.readAt (Elt F) (Rect.unit (s := S10) (k0_off4 i) S1.size (k0_off4_inb i)).toLoadRect xt0 (Shape.Idx.first (numel1_S1.symm ▸ Nat.one_pos)))) (k0_hw3 : k0_chk3 i (tbM0_0.view.readAt (Elt F) (Rect.unit (s := S10) (k0_off6 i) S1.size (k0_off6_inb i)).toLoadRect xt0 (Shape.Idx.first (numel1_S1.symm ▸ Nat.one_pos)))) (k0_hw4 : k0_chk4 i (tbM0_0.view.readAt (Elt F) (Rect.unit (s := S10) (k0_off8 i) S1.size (k0_off8_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_store i tbM0_0 htbM0_0 arg3 harg3 arg4 harg4 arg5 harg5 arg6 harg6 arg7 harg7 arg8 harg8 arg9 harg9 arg10 harg10 arg11 harg11 arg12 harg12 arg13 harg13 arg14 harg14 arg15 harg15) K := by
    intro E K
    simp only [cc0_mla_store_eq_skeleton]; unfold cc0_mla_store_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact k0_hw1 | sl_exact k0_hw2 | sl_exact k0_hw3 | sl_exact k0_hw4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.Bits.Frame.lean ====
/-
The frame of the kernel: it runs, its arguments end unchanged, its semaphores end at zero. What it leaves in its
output arrays is not named here.
-/
module

public import proofs.«01_k».proof.Proof.Bits.RunB
public import Idealize.ShloMosaic.Lib.Claim

@[expose] public section

-- membership in a rectangle with long axes (`View.cover_of_tiled`) is looked at one coordinate at a time
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5]
  rw [show (dats m hO hH 0 c).Φ t.castSucc = iprop(Pipeline.ΦA spec0 c ∗ Pipeline.ΦT pre0 (tbl m) c) from rfl, PhiT0_eq, PhiA0_eq]
  have hN : t.val < 160 := lt_of_lt_of_eq t.isLt (show (cfgM m hO).N = 160 from N_0)
  by_cases h0 : t.val % 160 = 0
  · iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t) (Hyps.c1 hH c t) (Hyps.c2 hH c t) (Hyps.c3 hH c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, H7, H8, HS0, HS1, HS2, HS3, HT0⟩
    isplitl [HS0 HS1 HS2 HS3 Hg HT0]
    · isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) (Hyps.c0 hH c t) (Hyps.c1 hH c t) (Hyps.c2 hH c t) (Hyps.c3 hH c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, H7, H8, HS0, HS1, HS2, HS3, HT0⟩
    isplitl [HS0 HS1 HS2 HS3 Hg HT0]
    · isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.Kernel.Gen

end
-- ==== Proof.TileStart.lean ====
/-
The multiple of 128 at or below a position, in the word operations the kernel computes it with.
-/
module

public import Idealize.ShloMosaic.Lib.Affine
public import Idealize.ShloMosaic.Lib.Exec

@[expose] public section

namespace Cert.Positions

open Idealize.ShloMosaic

/-- The multiple of 128 at or below the word `p`, in the operations the kernel computes it with: a signed division
    corrected towards minus infinity, times 128. -/
def tileStart (p : BitVec 32) : BitVec 32 :=
  Scalar.muli (Scalar.select
    (Scalar.andi (Scalar.cmpi .ne (Scalar.subi (Scalar.extui (Scalar.cmpi .sgt p 0#32)) (Scalar.extui (Scalar.cmpi .slt p 0#32)))
        (Scalar.subi (Scalar.extui (Scalar.cmpi .sgt 128#32 0#32)) (Scalar.extui (Scalar.cmpi .slt 128#32 0#32))))
      (Scalar.cmpi .ne (Scalar.remsi p 128#32) 0#32))
    (Scalar.subi (Scalar.divsi p 128#32) 1#32) (Scalar.divsi p 128#32)) 128#32

set_option maxRecDepth 100000 in
/-- Evaluated at every position up to 24320: the multiple is `n / 128 * 128`. -/
theorem tileStart_fin : ∀ n : Fin 24321, (tileStart (BitVec.ofNat 32 n.val)).toNat = n.val / 128 * 128 := by decide +kernel

end Cert.Positions
-- ==== Proof.Positions.lean ====
/-
The words that place the kernel's reads of its sine and cosine tables: from a starting position in [0, 8192], the tile
and the chunk, the kernel computes the multiple of 128 at or below the position; it lies inside the tables.
-/
module

public import proofs.«01_k».proof.Proof.TileStart
public import proofs.«01_k».proof.Proof.Gen.Pre_pre
public import Idealize.ShloMosaic.Lib.ReduceAll
public import Idealize.ShloMosaic.Lib.Affine
public import Idealize.ShloMosaic.Lib.Exec

@[expose] public section

namespace Cert.Positions

open Idealize.ShloMosaic

/-- At a position up to 24320 that multiple is `p / 128 * 128`. -/
theorem tileStart_toNat (p : BitVec 32) (hp : p.toNat ≤ 24320) : (tileStart p).toNat = p.toNat / 128 * 128 := by
  have h := tileStart_fin ⟨p.toNat, by omega⟩
  simpa only [BitVec.ofNat_toNat, BitVec.setWidth_eq] using h

/-- The position of chunk `o` of tile `s` after a start `v` in [0, 8192] does not wrap and is at most 24320. -/
theorem pos_le (v : BitVec 32) (hv : v.toNat ≤ 8192) (s : ℕ) (hs : s < 16) (o : ℕ) (ho : o ≤ 768) :
    (Scalar.addi (Scalar.addi v (Scalar.muli (BitVec.ofNat 32 s) 1024#32)) (BitVec.ofNat 32 o)).toNat ≤ 24320 := by
  simp only [Scalar.addi, Scalar.muli, IntOp.addi, IntOp.muli, BitVec.toNat_add, BitVec.toNat_mul, BitVec.toNat_ofNat]
  omega

/-- The side conditions the kernel takes of its table reads, at a position up to 24320: the start is a multiple of 128,
    and the three reads of 32 by 128 from it lie inside the 32 by 24704 tables. -/
theorem side (p : BitVec 32) (hp : p.toNat ≤ 24320) :
    (128 ∣ (tileStart p).toNat) ∧
    (∀ (r : Fin 3), ∀ a : Fin 2, (![0, (Scalar.addi (tileStart p) (BitVec.ofNat 32 (128 * r.val))).toNat] : Fin 2 → Nat) a + (![32, 128] : Fin 2 → Nat) a ≤ (![32, 24704] : Fin 2 → Nat) a) ∧
    (128 ∣ (tileStart p).toNat) := by
  have h := tileStart_toNat p hp
  refine ⟨⟨p.toNat / 128, by omega⟩, fun r a => ?_, ⟨p.toNat / 128, by omega⟩⟩
  have hr := r.isLt
  fin_cases a
  · show 0 + 32 ≤ 32; decide
  · show (Scalar.addi (tileStart p) (BitVec.ofNat 32 (128 * r.val))).toNat + 128 ≤ 24704
    simp only [Scalar.addi, IntOp.addi, BitVec.toNat_add, BitVec.toNat_ofNat, h]
    omega

/-- The precondition, decoded: every position is in [0, 8192] and every weight of the norm is at most the largest
    finite value of its format. -/
theorem pre_decoded {F : FTy → Type} [FloatOps F] (a0 : FVec F Pre_pre.S10x16384x1024 .fp8e4m3) (a1 : FVec F Pre_pre.S10x16384x8 .f32)
    (a2 : FVec F Pre_pre.S1024x320 .fp8e4m3) (a3 : FVec F Pre_pre.S8x3 .f32) (a4 : FVec F Pre_pre.S256 .f32) (a5 : IVec Pre_pre.S10 32)
    (h : Pre_pre.fn a0 a1 a2 a3 a4 a5 = fun _ => 1#1) :
    (∀ y, (a5 y).toNat ≤ 8192) ∧ ∀ y, cmpf .ole (Host.absf a4) (broadcastInDim Pre_pre.S256 ![] Pre_pre.Gen.bcast_S_S256 (constant Pre_pre.S_ .f32 0x7F7FFFFF#32)) y = 1#1 := by
  have e := congrFun h (Shape.Idx.first Pre_pre.Gen.h_S_)
  dsimp only [Pre_pre.fn, andi] at e
  obtain ⟨e1, e2⟩ := IntOp.andi_eq_one.mp e
  refine ⟨fun y => ?_, fun y => Host.reduce_andi_all _ _ _ _ _ e2 y⟩
  have e3 := Host.reduce_andi_all _ _ _ _ _ e1 y
  dsimp only [andi] at e3
  obtain ⟨hge, hle⟩ := IntOp.andi_eq_one.mp e3
  have h1 := IntOp.cmpi_sge.mp hge
  have h2 := IntOp.cmpi_sle.mp hle
  simp only [broadcastInDim, constantI, BitVec.toInt, BitVec.toNat_ofNat] at h1 h2
  omega

end Cert.Positions
-- ==== Proof.KernelHyps.lean ====
/-
The precondition gives the side conditions the kernel takes of the position words it reads.
-/
module

public import proofs.«01_k».proof.Defs
public import proofs.«01_k».proof.Proof.Bits.Frame
public import proofs.«01_k».proof.Proof.Positions

@[expose] public section

namespace Cert.KernelHyps

open Cert.Kernel Cert.Kernel.Gen
open Idealize.ShloMosaic Idealize.ShloMosaic.TcCoe

/-- No window's block depends on the positions, so nothing is asked of them there. -/
theorem ok (m : (ℓ : Loc nD τ sig) → Buf (Elt Bits) ℓ) : Ok m := trivial

/-- At every grid point the position word the body reads is one of the ten, in [0, 8192] by the precondition, so every
    read of the tables it places is aligned and inside them. -/
theorem hyps_of_pre (m : (ℓ : Loc nD τ sig) → Buf (Elt Bits) ℓ) (h : Cert.Pre_Kernel m) : Hyps m (ok m) := by
  have bound : ∀ (c : Dev nD) (y : S10.Idx), (m ((c : Thread nD τ).loc main_arg5) y).toNat ≤ 8192 := fun c y =>
    (Positions.pre_decoded _ _ _ _ _ _ (h c)).1 y
  have tb : ∀ y : S10.Idx, (tbl m 0 y).toNat ≤ 8192 := fun y => by
    have e : tbl m 0 = m (((0 : Dev nD) : Thread nD τ).loc main_arg5) := V_main_arg5 m 0
    rw [e]; exact bound 0 y
  have hs : ∀ t : Fin (cfgM m (ok m)).N, (grid0.coords t 1).val < 16 := fun t => (grid0.coords t 1).isLt
  have rd : ∀ (o : Fin 1 → Nat) (ho : ∀ a, o a + S1.size a ≤ S10.size a) (k : S1.Idx),
      (tbM0_0.view.readAt (Elt Bits) (Rect.unit (s := S10) o S1.size ho).toLoadRect (tbl m 0) k).toNat ≤ 8192 := fun o ho k => by
    simp only [View.readAt_apply]; exact tb _
  intro c t
  exact ⟨Positions.side _ (Positions.pos_le _ (rd _ _ _) _ (hs t) 0 (by decide)), Positions.side _ (Positions.pos_le _ (rd _ _ _) _ (hs t) 256 (by decide)),
    Positions.side _ (Positions.pos_le _ (rd _ _ _) _ (hs t) 512 (by decide)), Positions.side _ (Positions.pos_le _ (rd _ _ _) _ (hs t) 768 (by decide))⟩

end Cert.KernelHyps
-- ==== Proof.KernelPoints.lean ====
/-
The schedule of the ideal kernel on its 10 x 16 grid: at which points each window is fetched or written back, and
the staging memrefs and the body as the pipeline calls it at a point.
-/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%13)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 2 (fun _ => rfl) (by decide)) (P := 1) (by decide) t).mpr (Nat.mod_one _) : ∀ t : Fin grid0.N, Pipeline.Window.fetchOf grid0 false cc0_transform_1 t = true)
/-- Window 2 (operand 3 (%14)) is fetched at the first point only, at any contents of the tables (its index map reads none). -/
theorem fetch0_2 (a : (pcfg0 (F := F)).Adm) : ∀ t : Fin (cfg0 a).N, ((cfg0 a).win 2).fetch t = true ↔ t.val % 160 = 0 :=
  (fun t => Pipeline.Window.fetchOf_const cc0_transform_2 (fun _ _ => rfl) (n := 160) (by decide) t : ∀ t : Fin grid0.N, Pipeline.Window.fetchOf grid0 false cc0_transform_2 t = true ↔ t.val % 160 = 0)
/-- Window 3 (operand 4 (%15)) is fetched at the first point only, at any contents of the tables (its index map reads none). -/
theorem fetch0_3 (a : (pcfg0 (F := F)).Adm) : ∀ t : Fin (cfg0 a).N, ((cfg0 a).win 3).fetch t = true ↔ t.val % 160 = 0 :=
  (fun t => Pipeline.Window.fetchOf_const cc0_transform_3 (fun _ _ => rfl) (n := 160) (by decide) t : ∀ t : Fin grid0.N, Pipeline.Window.fetchOf grid0 false cc0_transform_3 t = true ↔ t.val % 160 = 0)
/-- Window 4 (operand 5 (%16)) is fetched at the first point only, at any contents of the tables (its index map reads none). -/
theorem fetch0_4 (a : (pcfg0 (F := F)).Adm) : ∀ t : Fin (cfg0 a).N, ((cfg0 a).win 4).fetch t = true ↔ t.val % 160 = 0 :=
  (fun t => Pipeline.Window.fetchOf_const cc0_transform_4 (fun _ _ => rfl) (n := 160) (by decide) t : ∀ t : Fin grid0.N, Pipeline.Window.fetchOf grid0 false cc0_transform_4 t = true ↔ t.val % 160 = 0)
/-- Window 5 (operand 6 (%12)) is fetched at the first point only, at any contents of the tables (its index map reads none). -/
theorem fetch0_5 (a : (pcfg0 (F := F)).Adm) : ∀ t : Fin (cfg0 a).N, ((cfg0 a).win 5).fetch t = true ↔ t.val % 160 = 0 :=
  (fun t => Pipeline.Window.fetchOf_const cc0_transform_5 (fun _ _ => rfl) (n := 160) (by decide) t : ∀ t : Fin grid0.N, Pipeline.Window.fetchOf grid0 false cc0_transform_5 t = true ↔ t.val % 160 = 0)
/-- Window 6 (result 0 (%17#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 2 (fun _ => rfl) (by decide)) (P := 1) (m := 0) (by decide) rfl t).mpr (Nat.mod_one _) : ∀ t : Fin grid0.N, Pipeline.Window.flushOf grid0 true cc0_transform_6 t = true)
/-- Window 7 (result 1 (%17#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 2 (%17#2)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 2 (fun _ => rfl) (by decide)) (P := 1) (m := 0) (by decide) rfl t).mpr (Nat.mod_one _) : ∀ t : Fin grid0.N, Pipeline.Window.flushOf grid0 true cc0_transform_8 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_store (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.KernelIdeal.Gen

end
-- ==== Proof.KernelRuns.lean ====
/-
What the runs of the ideal kernel share: the arrays when the region is entered, the prefetched positions, the
windows' blocks, the branch condition (the first grid point), the side conditions on the position words, the
scratch operands and the invariant that holds them.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KernelPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle with long axes (`View.cover_of_tiled`) is looked at one coordinate at a time
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S10 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 160 = 0 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 160 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x1024x1024 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x8x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S320x1024 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S3x8 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S32x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1024x256 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x2x1024 .f32 := spec0_8.stage ((cfgM m hO).slots t 8)
abbrev hs0_8 (hO : Ok m) (t : Fin (cfgM m hO).N) : (ms0_8 m hO t).IsWhole := hstage0_8 (((cfgM m hO).slots t 8).cast nbuf0_8)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S10) (k0_off2 (grid0.coords t)) S1.size (k0_off2_inb (grid0.coords t))).toLoadRect (tbl m 0) (Shape.Idx.first (numel1_S1.symm ▸ Nat.one_pos)))
    ∧ k0_chk2 (grid0.coords t) (tbM0_0.view.readAt (Elt F) (Rect.unit (s := S10) (k0_off4 (grid0.coords t)) S1.size (k0_off4_inb (grid0.coords t))).toLoadRect (tbl m 0) (Shape.Idx.first (numel1_S1.symm ▸ Nat.one_pos)))
    ∧ k0_chk3 (grid0.coords t) (tbM0_0.view.readAt (Elt F) (Rect.unit (s := S10) (k0_off6 (grid0.coords t)) S1.size (k0_off6_inb (grid0.coords t))).toLoadRect (tbl m 0) (Shape.Idx.first (numel1_S1.symm ▸ Nat.one_pos)))
    ∧ k0_chk4 (grid0.coords t) (tbM0_0.view.readAt (Elt F) (Rect.unit (s := S10) (k0_off8 (grid0.coords t)) S1.size (k0_off8_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S10) (k0_off2 (grid0.coords t)) S1.size (k0_off2_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S10) (k0_off2 (grid0.coords t)) S1.size (k0_off2_inb (grid0.coords t))).toLoadRect (tbl m 0) (Shape.Idx.first (numel1_S1.symm ▸ Nat.one_pos))) := (hH c t).1
/-- Conjunct 1 of `Gen.Hyps` at point `t`: the side condition `k0_chk2` the body assumes as `k0_hw2`. -/
abbrev Hyps.p1 (m : (ℓ : Loc nD τ sig) → Buf (Elt F) ℓ) (hO : Ok m) (c : Dev nD) (t : Fin (cfgM m hO).N) : Prop :=
  k0_chk2 (grid0.coords t) (tbM0_0.view.readAt (Elt F) (Rect.unit (s := S10) (k0_off4 (grid0.coords t)) S1.size (k0_off4_inb (grid0.coords t))).toLoadRect (tbl m 0) (Shape.Idx.first (numel1_S1.symm ▸ Nat.one_pos)))
variable {m} in
theorem Hyps.c1 {hO : Ok m} (hH : Hyps m hO) (c : Dev nD) (t : Fin (cfgM m hO).N) :
    k0_chk2 (grid0.coords t) (tbM0_0.view.readAt (Elt F) (Rect.unit (s := S10) (k0_off4 (grid0.coords t)) S1.size (k0_off4_inb (grid0.coords t))).toLoadRect (tbl m 0) (Shape.Idx.first (numel1_S1.symm ▸ Nat.one_pos))) := (hH c t).2.1
/-- Conjunct 2 of `Gen.Hyps` at point `t`: the side condition `k0_chk3` the body assumes as `k0_hw3`. -/
abbrev Hyps.p2 (m : (ℓ : Loc nD τ sig) → Buf (Elt F) ℓ) (hO : Ok m) (c : Dev nD) (t : Fin (cfgM m hO).N) : Prop :=
  k0_chk3 (grid0.coords t) (tbM0_0.view.readAt (Elt F) (Rect.unit (s := S10) (k0_off6 (grid0.coords t)) S1.size (k0_off6_inb (grid0.coords t))).toLoadRect (tbl m 0) (Shape.Idx.first (numel1_S1.symm ▸ Nat.one_pos)))
variable {m} in
theorem Hyps.c2 {hO : Ok m} (hH : Hyps m hO) (c : Dev nD) (t : Fin (cfgM m hO).N) :
    k0_chk3 (grid0.coords t) (tbM0_0.view.readAt (Elt F) (Rect.unit (s := S10) (k0_off6 (grid0.coords t)) S1.size (k0_off6_inb (grid0.coords t))).toLoadRect (tbl m 0) (Shape.Idx.first (numel1_S1.symm ▸ Nat.one_pos))) := (hH c t).2.2.1
/-- Conjunct 3 of `Gen.Hyps` at point `t`: the side condition `k0_chk4` the body assumes as `k0_hw4`. -/
abbrev Hyps.p3 (m : (ℓ : Loc nD τ sig) → Buf (Elt F) ℓ) (hO : Ok m) (c : Dev nD) (t : Fin (cfgM m hO).N) : Prop :=
  k0_chk4 (grid0.coords t) (tbM0_0.view.readAt (Elt F) (Rect.unit (s := S10) (k0_off8 (grid0.coords t)) S1.size (k0_off8_inb (grid0.coords t))).toLoadRect (tbl m 0) (Shape.Idx.first (numel1_S1.symm ▸ Nat.one_pos)))
variable {m} in
theorem Hyps.c3 {hO : Ok m} (hH : Hyps m hO) (c : Dev nD) (t : Fin (cfgM m hO).N) :
    k0_chk4 (grid0.coords t) (tbM0_0.view.readAt (Elt F) (Rect.unit (s := S10) (k0_off8 (grid0.coords t)) S1.size (k0_off8_inb (grid0.coords t))).toLoadRect (tbl m 0) (Shape.Idx.first (numel1_S1.symm ▸ Nat.one_pos))) := (hH c t).2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t) :
    Hyps m hO := fun c t =>
  And.intro (p0 c t) (And.intro (p1 c t) (And.intro (p2 c t) (p3 c t)))

/-- The scratch operands: whole scoped buffers of the kernel's own, passed beside the windows. -/
abbrev scM0_0 : Memref sig .tc .vmem S320x1024 .bf16 := Memref.whole cc0_scratch0
abbrev scM0_1 : Memref sig .tc .vmem S32x24704 .f32 := Memref.whole cc0_scratch1
abbrev scM0_2 : Memref sig .tc .vmem S32x24704 .f32 := Memref.whole cc0_scratch2
abbrev scM0_3 : Memref sig .tc .vmem S64x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- One staging buffer of the codes' window, through which its contents are stated. -/
abbrev VO0_7 : View sig .tc .vmem S1x1024x256 .fp8e4m3 := (Memref.whole cc0_stg7_0 : Memref sig .tc .vmem S1x1024x256 .fp8e4m3).view
/-- One staging buffer of the scales' window, through which its contents are stated. -/
abbrev VO0_8 : View sig .tc .vmem S1x2x1024 .f32 := (Memref.whole cc0_stg8_0 : Memref sig .tc .vmem S1x2x1024 .f32).view
/-- The scratch of the dequantised weights, which the kernel carries between points, as a view. -/
abbrev VS0_0 : View sig .tc .vmem S320x1024 .bf16 := scM0_0.view

end Cert.KernelIdeal.Gen

end
-- ==== Proof.KernelRunA.lean ====
/-
The run of the ideal kernel's body at the first grid point, where it also dequantises the weights into its
scratch and fills the sine and cosine tables.
-/
module

public import proofs.«01_k».proof.Proof.KernelRuns

@[expose] public section

-- membership in a rectangle with long axes (`View.cover_of_tiled`) is looked at one coordinate at a time
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2676000 in
/-- What the body's stores leave at the FIRST grid point, as pieces (last first): in the codes' buffer, in the scales'
    buffer and in the scratch of dequantised weights; WITH the proof that the body, on whole staging memrefs with the
    inputs at their contents, runs to the continuation holding the inputs as they were and those pieces written. The
    rotated keys' buffer and the sine and cosine tables end at some contents. -/
noncomputable def kernelRun0_A (c : Dev nD) (i : grid0.Coords) (arg3 : Memref sig .tc .vmem S1x1024x1024 .fp8e4m3) (harg3 : arg3.IsWhole) (arg4 : Memref sig .tc .vmem S1x8x1024 .f32) (harg4 : arg4.IsWhole) (arg5 : Memref sig .tc .vmem S320x1024 .fp8e4m3) (harg5 : arg5.IsWhole) (arg6 : Memref sig .tc .vmem S3x8 .f32) (harg6 : arg6.IsWhole) (arg7 : Memref sig .tc .vmem S256x1 .f32) (harg7 : arg7.IsWhole) (arg8 : Memref sig .tc .vmem S32x128 .f32) (harg8 : arg8.IsWhole) (arg9 : Memref sig .tc .vmem S1x64x1024 .bf16) (harg9 : arg9.IsWhole) (arg10 : Memref sig .tc .vmem S1x1024x256 .fp8e4m3) (harg10 : arg10.IsWhole) (arg11 : Memref sig .tc .vmem S1x2x1024 .f32) (harg11 : arg11.IsWhole) (arg12 : Memref sig .tc .vmem S320x1024 .bf16) (harg12 : arg12.IsWhole) (arg13 : Memref sig .tc .vmem S32x24704 .f32) (harg13 : arg13.IsWhole) (arg14 : Memref sig .tc .vmem S32x24704 .f32) (harg14 : arg14.IsWhole) (arg15 : Memref sig .tc .vmem S64x128 .f32) (harg15 : arg15.IsWhole) (hc0 : cond0_0 i)
    (x0 : Vec F S1x1024x1024 .fp8e4m3) (x1 : Vec F S1x8x1024 .f32) (x2 : Vec F S320x1024 .fp8e4m3) (x3 : Vec F S3x8 .f32) (x4 : Vec F S256x1 .f32) (x5 : Vec F S32x128 .f32) (xt0 : TbBuf0 (F := F) c tbM0_0) (k0_hw1 : k0_chk1 i (tbM0_0.view.readAt (Elt F) (Rect.unit (s := S10) (k0_off2 i) S1.size (k0_off2_inb i)).toLoadRect xt0 (Shape.Idx.first (numel1_S1.symm ▸ Nat.one_pos)))) (k0_hw2 : k0_chk2 i (tbM0_0.view.readAt (Elt F) (Rect.unit (s := S10) (k0_off4 i) S1.size (k0_off4_inb i)).toLoadRect xt0 (Shape.Idx.first (numel1_S1.symm ▸ Nat.one_pos)))) (k0_hw3 : k0_chk3 i (tbM0_0.view.readAt (Elt F) (Rect.unit (s := S10) (k0_off6 i) S1.size (k0_off6_inb i)).toLoadRect xt0 (Shape.Idx.first (numel1_S1.symm ▸ Nat.one_pos)))) (k0_hw4 : k0_chk4 i (tbM0_0.view.readAt (Elt F) (Rect.unit (s := S10) (k0_off8 i) S1.size (k0_off8_inb i)).toLoadRect xt0 (Shape.Idx.first (numel1_S1.symm ▸ Nat.one_pos)))) :
    Σ' (L7 : List (View.Piece (Elt F) S1x1024x256 .fp8e4m3)), Σ' (L8 : List (View.Piece (Elt F) S1x2x1024 .f32)), { LS0 : List (View.Piece (Elt F) S320x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_store i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_mla_store_eq_skeleton]; unfold cc0_mla_store_skel
    simp only [k0_part11_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact k0_hw1 | sl_exact k0_hw2 | sl_exact k0_hw3 | sl_exact k0_hw4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]; · iexists _; iexact H7
    isplitl [H8]; · iexists _; iexact H8
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.KernelIdeal.Gen

end
-- ==== Proof.KernelRunB.lean ====
/-
The run of the ideal kernel's body at every grid point but the first.
-/
module

public import proofs.«01_k».proof.Proof.KernelRunA

@[expose] public section

-- membership in a rectangle with long axes (`View.cover_of_tiled`) is looked at one coordinate at a time
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1792000 in
/-- What the body's stores leave at a LATER grid point, as pieces (last first), in the codes' and in the scales' buffer,
    WITH the proof that the body, on whole staging memrefs with the inputs at their contents and the scratch of
    dequantised weights at `xs0`, runs to the continuation holding the inputs and that scratch as they were and those
    pieces written. The rotated keys' buffer ends at some contents. -/
noncomputable def kernelRun0_B (c : Dev nD) (i : grid0.Coords) (arg3 : Memref sig .tc .vmem S1x1024x1024 .fp8e4m3) (harg3 : arg3.IsWhole) (arg4 : Memref sig .tc .vmem S1x8x1024 .f32) (harg4 : arg4.IsWhole) (arg5 : Memref sig .tc .vmem S320x1024 .fp8e4m3) (harg5 : arg5.IsWhole) (arg6 : Memref sig .tc .vmem S3x8 .f32) (harg6 : arg6.IsWhole) (arg7 : Memref sig .tc .vmem S256x1 .f32) (harg7 : arg7.IsWhole) (arg8 : Memref sig .tc .vmem S32x128 .f32) (harg8 : arg8.IsWhole) (arg9 : Memref sig .tc .vmem S1x64x1024 .bf16) (harg9 : arg9.IsWhole) (arg10 : Memref sig .tc .vmem S1x1024x256 .fp8e4m3) (harg10 : arg10.IsWhole) (arg11 : Memref sig .tc .vmem S1x2x1024 .f32) (harg11 : arg11.IsWhole) (arg12 : Memref sig .tc .vmem S320x1024 .bf16) (harg12 : arg12.IsWhole) (arg13 : Memref sig .tc .vmem S32x24704 .f32) (harg13 : arg13.IsWhole) (arg14 : Memref sig .tc .vmem S32x24704 .f32) (harg14 : arg14.IsWhole) (arg15 : Memref sig .tc .vmem S64x128 .f32) (harg15 : arg15.IsWhole) (hc0 : ¬cond0_0 i)
    (x0 : Vec F S1x1024x1024 .fp8e4m3) (x1 : Vec F S1x8x1024 .f32) (x2 : Vec F S320x1024 .fp8e4m3) (x3 : Vec F S3x8 .f32) (x4 : Vec F S256x1 .f32) (x5 : Vec F S32x128 .f32) (xs0 : Vec F S320x1024 .bf16) (xt0 : TbBuf0 (F := F) c tbM0_0) (k0_hw1 : k0_chk1 i (tbM0_0.view.readAt (Elt F) (Rect.unit (s := S10) (k0_off2 i) S1.size (k0_off2_inb i)).toLoadRect xt0 (Shape.Idx.first (numel1_S1.symm ▸ Nat.one_pos)))) (k0_hw2 : k0_chk2 i (tbM0_0.view.readAt (Elt F) (Rect.unit (s := S10) (k0_off4 i) S1.size (k0_off4_inb i)).toLoadRect xt0 (Shape.Idx.first (numel1_S1.symm ▸ Nat.one_pos)))) (k0_hw3 : k0_chk3 i (tbM0_0.view.readAt (Elt F) (Rect.unit (s := S10) (k0_off6 i) S1.size (k0_off6_inb i)).toLoadRect xt0 (Shape.Idx.first (numel1_S1.symm ▸ Nat.one_pos)))) (k0_hw4 : k0_chk4 i (tbM0_0.view.readAt (Elt F) (Rect.unit (s := S10) (k0_off8 i) S1.size (k0_off8_inb i)).toLoadRect xt0 (Shape.Idx.first (numel1_S1.symm ▸ Nat.one_pos)))) :
    Σ' (L7 : List (View.Piece (Elt F) S1x1024x256 .fp8e4m3)), { L8 : List (View.Piece (Elt F) S1x2x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_store i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_mla_store_eq_skeleton]; unfold cc0_mla_store_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs0
    sl_exec (disch := first | sl_exact hc0 | sl_exact k0_hw1 | sl_exact k0_hw2 | sl_exact k0_hw3 | sl_exact k0_hw4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]; · iexists _; iexact H7
    isplitl [H8]; · iexists _; iexact H8
    isplitl [HS0]
    · iexists _; isplitr; · ipureintro; exact harg12.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.KernelIdeal.Gen

end
-- ==== Proof.KernelFrame.lean ====
/-
The ideal kernel's run as a whole: what the body leaves in the codes' and the scales' buffer and in the scratch of
dequantised weights at every point, the obligation of the body, the launch and the frame.
-/
module

public import proofs.«01_k».proof.Proof.KernelRunB
public import Idealize.ShloMosaic.Lib.Claim

@[expose] public section

-- membership in a rectangle with long axes (`View.cover_of_tiled`) is looked at one coordinate at a time
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the body leaves, point by point -/

/-- The body's run at point `t`, when that is the first point. -/
abbrev runA (hO : Ok m) (hH : Hyps m hO) (c : Dev nD) (t : Fin (cfgM m hO).N) (h0 : t.val % 160 = 0) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t) (Hyps.c1 hH c t) (Hyps.c2 hH c t) (Hyps.c3 hH c t)

/-- The body's run at point `t`, when that is a later one, the scratch of dequantised weights holding `xs0`. -/
abbrev runB (hO : Ok m) (hH : Hyps m hO) (c : Dev nD) (t : Fin (cfgM m hO).N) (h0 : ¬t.val % 160 = 0) (xs0 : Vec F S320x1024 .bf16) :=
  kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) xs0 (tbl m 0) (Hyps.c0 hH c t) (Hyps.c1 hH c t) (Hyps.c2 hH c t) (Hyps.c3 hH c t)

/-- The pieces run A leaves in output 7 tile its block, four stores, so they cover it. -/
theorem coverA_7 (hO : Ok m) (hH : Hyps m hO) (c : Dev nD) (t : Fin (cfgM m hO).N) (h0 : t.val % 160 = 0) (y : S1x1024x256.Idx) :
    ∃ pc ∈ (runA m hO hH c t h0).1, y ∈ pc.1.set :=
  View.cover_of_tiledL (runA m hO hH c t h0).1 S1x256x256.size (by sl_kernel_rfl) y

/-- The pieces run A leaves in output 8 tile its block, four stores, so they cover it. -/
theorem coverA_8 (hO : Ok m) (hH : Hyps m hO) (c : Dev nD) (t : Fin (cfgM m hO).N) (h0 : t.val % 160 = 0) (y : S1x2x1024.Idx) :
    ∃ pc ∈ (runA m hO hH c t h0).2.1, y ∈ pc.1.set :=
  View.cover_of_tiledL (runA m hO hH c t h0).2.1 S1x2x256.size (by sl_kernel_rfl) y

/-- The pieces run A leaves in the scratch of dequantised weights cover it: they tile it when cut into blocks of 32 by 128. -/
theorem scoverA (hO : Ok m) (hH : Hyps m hO) (c : Dev nD) (t : Fin (cfgM m hO).N) (h0 : t.val % 160 = 0) (y : S320x1024.Idx) :
    ∃ pc ∈ (runA m hO hH c t h0).2.2.1, y ∈ pc.1.set :=
  View.cover_of_tiledBy (runA m hO hH c t h0).2.2.1 ![32, 128] (by sl_kernel_rfl) y

/-- The pieces run B leaves in output 7 tile its block, four stores, so they cover it. -/
theorem coverB_7 (hO : Ok m) (hH : Hyps m hO) (c : Dev nD) (t : Fin (cfgM m hO).N) (h0 : ¬t.val % 160 = 0) (xs0 : Vec F S320x1024 .bf16) (y : S1x1024x256.Idx) :
    ∃ pc ∈ (runB m hO hH c t h0 xs0).1, y ∈ pc.1.set :=
  View.cover_of_tiledL (runB m hO hH c t h0 xs0).1 S1x256x256.size (by sl_kernel_rfl) y

/-- The pieces run B leaves in output 8 tile its block, four stores, so they cover it. -/
theorem coverB_8 (hO : Ok m) (hH : Hyps m hO) (c : Dev nD) (t : Fin (cfgM m hO).N) (h0 : ¬t.val % 160 = 0) (xs0 : Vec F S320x1024 .bf16) (y : S1x2x1024.Idx) :
    ∃ pc ∈ (runB m hO hH c t h0 xs0).2.1, y ∈ pc.1.set :=
  View.cover_of_tiledL (runB m hO hH c t h0 xs0).2.1 S1x2x256.size (by sl_kernel_rfl) y

/-- The first of the pipeline's points. -/
abbrev pt0 (hO : Ok m) : Fin (cfgM m hO).N := ⟨0, lt_of_lt_of_eq (by decide) (show (cfgM m hO).N = 160 from N_0).symm⟩

/-- The dequantised weights: what the first point leaves in the scratch the kernel carries between points. -/
def wScr (hO : Ok m) (hH : Hyps m hO) (c : Dev nD) : Vec F S320x1024 .bf16 :=
  VS0_0.read (Elt F) (VS0_0.writes (Elt F) VS0_0.junk (runA m hO hH c (pt0 m hO) (Nat.zero_mod _)).2.2.1)

/-- The codes' tile the body leaves at point `t`. -/
def codesAt (hO : Ok m) (hH : Hyps m hO) (c : Dev nD) (t : Fin (cfgM m hO).N) : Vec F S1x1024x256 .fp8e4m3 :=
  if h0 : t.val % 160 = 0 then VO0_7.read (Elt F) (VO0_7.writes (Elt F) VO0_7.junk (runA m hO hH c t h0).1)
  else VO0_7.read (Elt F) (VO0_7.writes (Elt F) VO0_7.junk (runB m hO hH c t h0 (wScr m hO hH c)).1)

/-- The scales' tile the body leaves at point `t`. -/
def scalesAt (hO : Ok m) (hH : Hyps m hO) (c : Dev nD) (t : Fin (cfgM m hO).N) : Vec F S1x2x1024 .f32 :=
  if h0 : t.val % 160 = 0 then VO0_8.read (Elt F) (VO0_8.writes (Elt F) VO0_8.junk (runA m hO hH c t h0).2.1)
  else VO0_8.read (Elt F) (VO0_8.writes (Elt F) VO0_8.junk (runB m hO hH c t h0 (wScr m hO hH c)).2.1)

/-- The invariant before position `n`: before the first point every scratch at anything; afterwards the scratch of
    dequantised weights at `wScr`, the other scratch buffers at anything; and the generator register and the table of
    positions throughout. -/
def PhiS (hO : Ok m) (hH : Hyps m hO) (c : Dev nD) : ℕ → sProp 𝕄
  | 0 => iprop(Pipeline.ΦA spec0 c ∗ Pipeline.ΦT pre0 (tbl m) c)
  | _ + 1 => iprop(iprop(iprop(owns (c : Thread nD τ) scM0_0 fullShare (wScr m hO hH c) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) ∗ Pipeline.ΦT pre0 (tbl m) c)

theorem PhiS_zero (hO : Ok m) (hH : Hyps m hO) (c : Dev nD) (n : ℕ) (hz : n = 0) : PhiS m hO hH c n = iprop(Pipeline.ΦA spec0 c ∗ Pipeline.ΦT pre0 (tbl m) c) := by
  subst hz; rfl

theorem PhiS_pos (hO : Ok m) (hH : Hyps m hO) (c : Dev nD) (n : ℕ) (hz : n ≠ 0) :
    PhiS m hO hH c n = iprop(iprop(iprop(owns (c : Thread nD τ) scM0_0 fullShare (wScr m hO hH c) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) ∗ Pipeline.ΦT pre0 (tbl m) c) := by
  cases n with
  | zero => exact absurd rfl hz
  | succ n => rfl

/-! ## The pipeline's proof data -/

/-- The output window whose contents are not named: 6, the rotated keys, which nothing reads. -/
def forgets0 : Fin 9 → Bool := fun w => w.val == 6

/-- The proof data of the one pipeline on core `c`: the arrays as the region finds them; after the body at point `t`
    each input's buffer at its block, the codes' and the scales' buffer at their tiles, the rotated keys' unnamed; the
    invariant `PhiS`; nothing owed; full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, _⟩ => codesAt m hO hH c t
    | ⟨8, _⟩ => scalesAt m hO hH c t
  Φ t := PhiS m hO hH c t.val
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_7 (hO : Ok m) (hH : Hyps m hO) (c : Dev nD) (t : Fin (cfgM m hO).N) : (dats m hO hH 0 c).after 7 t = codesAt m hO hH c t := by dsimp only [dats]; try rfl
theorem after0_8 (hO : Ok m) (hH : Hyps m hO) (c : Dev nD) (t : Fin (cfgM m hO).N) : (dats m hO hH 0 c).after 8 t = scalesAt m hO hH c t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d)
    ∗ (∃ d, owns (c : Thread nD τ) (ms0_7 m hO t) fullShare ((dats m hO hH 0 c).before 7 t d))
    ∗ (∃ d, owns (c : Thread nD τ) (ms0_8 m hO t) fullShare ((dats m hO hH 0 c).before 8 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d)
    ∗ owns (c : Thread nD τ) (ms0_7 m hO t) fullShare ((dats m hO hH 0 c).after 7 t)
    ∗ owns (c : Thread nD τ) (ms0_8 m hO t) fullShare ((dats m hO hH 0 c).after 8 t))

set_option maxHeartbeats 9600000 in
/-- The body at any point: the inputs' memrefs hold their blocks, the point is the first or a later one, and the run of
    that case applies; the invariant hands the body the dequantised weights (at anything at the first point) and takes
    them back at `wScr`. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).owesAt () t.succ = (dats m hO hH 0 c).owesAt () t.castSucc from rfl,
    after0_0, after0_1, after0_2, after0_3, after0_4, after0_5, after0_7, after0_8]
  rw [show (dats m hO hH 0 c).Φ t.succ = PhiS m hO hH c (t.val + 1) from rfl, PhiS_pos m hO hH c _ (Nat.succ_ne_zero _),
    show (dats m hO hH 0 c).Φ t.castSucc = PhiS m hO hH c t.val from rfl]
  have hN : t.val < 160 := lt_of_lt_of_eq t.isLt (show (cfgM m hO).N = 160 from N_0)
  by_cases h0 : t.val % 160 = 0
  · have hz : t.val = 0 := by omega
    have ht : t = pt0 m hO := Fin.ext hz
    rw [PhiS_zero m hO hH c _ hz, PhiT0_eq, PhiA0_eq, show codesAt m hO hH c t = _ from dif_pos h0, show scalesAt m hO hH c t = _ from dif_pos h0]
    iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA m hO hH c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, ⟨%e7, H7⟩, ⟨%e8, H8⟩, ⟨%es0, HS0⟩, HS1, HS2, HS3, HT0⟩
    isplitl [HS0 HS1 HS2 HS3 Hg HT0]
    · isplitl [HS0 HS1 HS2 HS3 Hg]
      · isplitl [HS0 HS1 HS2 HS3]
        · isplitl [HS0]
          · unfold owns; iexists _; isplitr
            swap; · iexact HS0
            ipureintro; subst ht; exact View.read_writes_of_cover _ _ _ _ _ (scoverA m hO hH c (pt0 m hO) h0)
          isplitl [HS1]
          · iexact HS1
          isplitl [HS2]
          · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA_7 m hO hH c t h0)
    unfold owns; iexists _; isplitr
    swap; · iexact H8
    ipureintro; exact View.read_writes_of_cover _ _ _ _ _ (coverA_8 m hO hH c t h0)
  · have hz : t.val ≠ 0 := by omega
    rw [PhiS_pos m hO hH c _ hz, PhiT0_eq, show codesAt m hO hH c t = _ from dif_neg h0, show scalesAt m hO hH c t = _ from dif_neg h0]
    iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB m hO hH c t h0 (wScr m hO hH c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, ⟨%e7, H7⟩, ⟨%e8, H8⟩, HS0, HS1, HS2, HS3, HT0⟩
    isplitl [HS0 HS1 HS2 HS3 Hg HT0]
    · isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverB_7 m hO hH c t h0 (wScr m hO hH c))
    unfold owns; iexists _; isplitr
    swap; · iexact H8
    ipureintro; exact View.read_writes_of_cover _ _ _ _ _ (coverB_8 m hO hH c t h0 (wScr m hO hH c))

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-- What the launch hands the region is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 from rfl, PhiS_zero m hO hH c 0 rfl]

/-- After the last point the invariant gives the scratch and the register back, the weights' contents forgotten. -/
theorem hout (hO : Ok m) (hH : Hyps m hO) (c : Dev nD) : (dats m hO hH 0 c).Φ (Fin.last (cfgM m hO).N) ⊢ Pipeline.ΦA spec0 c := by
  rw [show (dats m hO hH 0 c).Φ (Fin.last (cfgM m hO).N) = PhiS m hO hH c (Fin.last (cfgM m hO).N).val from rfl,
    PhiS_pos m hO hH c _ (by rw [Fin.val_last]; have : (cfgM m hO).N = 160 := N_0; omega), PhiA0_eq]
  iintro ⟨⟨⟨HS0, HS1, HS2, HS3⟩, Hg⟩, -⟩
  isplitl [HS0 HS1 HS2 HS3]
  · isplitl [HS0]
    · iexists _; iexact HS0
    isplitl [HS1]
    · iexact HS1
    isplitl [HS2]
    · iexact HS2
    iexact HS3
  iexact Hg

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_track_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hin := hin m hO hH) (hout := hout m hO hH)

/-- From any memory with zero counters every execution of @main terminates, and every final state has every input array
    of the pipeline unchanged, the codes and the scales as the tiles written back, nothing stated of the rotated keys, and
    every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO hH 0 c).toRForget forgets0) (A_eq m hO hH) (run_main m ρ hO hH)

/-- The frame: the argument arrays end unchanged and every semaphore counter at zero. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.KernelIdeal.Gen

end
-- ==== Proof.KernelIdealHyps.lean ====
/-
The precondition gives the side conditions the ideal kernel takes of the position words it reads.
-/
module

public import proofs.«01_k».proof.Defs
public import proofs.«01_k».proof.Proof.KernelRuns
public import proofs.«01_k».proof.Proof.Positions

@[expose] public section

namespace Cert.KernelIdealHyps

open Cert.KernelIdeal Cert.KernelIdeal.Gen
open Idealize.ShloMosaic Idealize.ShloMosaic.TcCoe

/-- No window's block depends on the positions, so nothing is asked of them there. -/
theorem ok (m : (ℓ : Loc nD τ sig) → Buf (Elt Ideal) ℓ) : Ok m := trivial

/-- At every grid point the position word the body reads is one of the ten, in [0, 8192] by the precondition, so every
    read of the tables it places is aligned and inside them. -/
theorem hyps_of_pre (m : (ℓ : Loc nD τ sig) → Buf (Elt Ideal) ℓ) (h : Cert.Pre_KernelIdeal m) : Hyps m (ok m) := by
  have bound : ∀ (c : Dev nD) (y : S10.Idx), (m ((c : Thread nD τ).loc main_arg5) y).toNat ≤ 8192 := fun c y =>
    (Positions.pre_decoded _ _ _ _ _ _ (h c)).1 y
  have tb : ∀ y : S10.Idx, (tbl m 0 y).toNat ≤ 8192 := fun y => by
    have e : tbl m 0 = m (((0 : Dev nD) : Thread nD τ).loc main_arg5) := V_main_arg5 m 0
    rw [e]; exact bound 0 y
  have hs : ∀ t : Fin (cfgM m (ok m)).N, (grid0.coords t 1).val < 16 := fun t => (grid0.coords t 1).isLt
  have rd : ∀ (o : Fin 1 → Nat) (ho : ∀ a, o a + S1.size a ≤ S10.size a) (k : S1.Idx),
      (tbM0_0.view.readAt (Elt Ideal) (Rect.unit (s := S10) o S1.size ho).toLoadRect (tbl m 0) k).toNat ≤ 8192 := fun o ho k => by
    simp only [View.readAt_apply]; exact tb _
  intro c t
  exact ⟨Positions.side _ (Positions.pos_le _ (rd _ _ _) _ (hs t) 0 (by decide)), Positions.side _ (Positions.pos_le _ (rd _ _ _) _ (hs t) 256 (by decide)),
    Positions.side _ (Positions.pos_le _ (rd _ _ _) _ (hs t) 512 (by decide)), Positions.side _ (Positions.pos_le _ (rd _ _ _) _ (hs t) 768 (by decide))⟩

end Cert.KernelIdealHyps
-- ==== Proof.Blocks.lean ====
/- What the kernel's windows hold at a grid point, read at an index of the launched arguments. -/
module

public import proofs.«01_k».proof.Proof.KernelRuns
public import Idealize.ShloMosaic.Lib.StableHlo.RunRead
public import Idealize.ShloMosaic.Lib.Pointwise

@[expose] public section

set_option maxRecDepth 16384

noncomputable section

namespace Cert.KernelIdeal.Gen

open Idealize.ShloMosaic Idealize.ShloMosaic.TcCoe Idealize.ShloMosaic.Tactic

variable {F : FTy → Type} [FloatOps F] (m : (ℓ : Loc nD τ sig) → Buf (Elt F) ℓ)

/-! ## The arrays the host makes before the region -/

/-- The hidden scales with the token axis last. -/
theorem V_main_v13 (c : Dev nD) :
    V m c main_v13 = transpose S10x8x16384 [0, 2, 1] (m ((c : Thread nD τ).loc main_arg1))
      transposes_S10x16384x8_S10x8x16384_0_2_1 := by
  show StableHlo.after hostOps0 _ (Proc.devRef .tc main_v13) = _
  after_results
  try rfl

/-- The weight codes transposed. -/
theorem V_main_v14 (c : Dev nD) :
    V m c main_v14 = transpose S320x1024 [1, 0] (m ((c : Thread nD τ).loc main_arg2))
      transposes_S1024x320_S320x1024_1_0 := by
  show StableHlo.after hostOps0 _ (Proc.devRef .tc main_v14) = _
  after_results
  try rfl

/-- The weight scales transposed. -/
theorem V_main_v15 (c : Dev nD) :
    V m c main_v15 = transpose S3x8 [1, 0] (m ((c : Thread nD τ).loc main_arg3))
      transposes_S8x3_S3x8_1_0 := by
  show StableHlo.after hostOps0 _ (Proc.devRef .tc main_v15) = _
  after_results
  try rfl

/-- The gains as a column. -/
theorem V_main_v16 (c : Dev nD) :
    V m c main_v16 = broadcastInDim S256x1 ![0] bcast_S256_S256x1_0 (m ((c : Thread nD τ).loc main_arg4)) := by
  show StableHlo.after hostOps0 _ (Proc.devRef .tc main_v16) = _
  after_results
  try rfl

/-- The transposed hidden scales at an index. -/
theorem v13_apply (x : Vec F S10x16384x8 .f32) (b : Fin 10) (j : Fin 8) (t : Fin 16384) :
    transpose S10x8x16384 [0, 2, 1] x transposes_S10x16384x8_S10x8x16384_0_2_1 (ix3 b j t) = x (ix3 b t j) := by
  pointwise

/-- The transposed weight codes at an index. -/
theorem v14_apply (x : Vec F S1024x320 .fp8e4m3) (d : Fin 320) (k : Fin 1024) :
    transpose S320x1024 [1, 0] x transposes_S1024x320_S320x1024_1_0 (ix2 d k) = x (ix2 k d) := by
  pointwise

/-- The transposed weight scales at an index. -/
theorem v15_apply (x : Vec F S8x3 .f32) (r : Fin 3) (j : Fin 8) :
    transpose S3x8 [1, 0] x transposes_S8x3_S3x8_1_0 (ix2 r j) = x (ix2 j r) := by
  pointwise

/-- The column of gains at an index. -/
theorem v16_apply (x : Vec F S256 .f32) (d : Fin 256) :
    broadcastInDim S256x1 ![0] bcast_S256_S256x1_0 x (ix2 d 0) = x (ix1 d) := by
  pointwise

/-! ## Where each window's block lies -/

/-- A point's batch and tile, and every used window's block index there. -/
theorem index_eq : ∀ t : Fin grid0.N,
    cc0_transform_0 (grid0.coords t) = ![t.val / 16, t.val % 16, 0]
    ∧ cc0_transform_1 (grid0.coords t) = ![t.val / 16, 0, t.val % 16]
    ∧ cc0_transform_2 (grid0.coords t) = ![0, 0]
    ∧ cc0_transform_3 (grid0.coords t) = ![0, 0]
    ∧ cc0_transform_4 (grid0.coords t) = ![0, 0]
    ∧ cc0_transform_7 (grid0.coords t) = ![t.val / 16, t.val % 16, 0]
    ∧ cc0_transform_8 (grid0.coords t) = ![t.val / 16, 0, t.val % 16] := by decide +kernel

/-- The number of points. -/
theorem point_lt (hO : Ok m) (t : Fin (cfgM m hO).N) : t.val < 160 := t.isLt

/-- A point's batch row. -/
def batch (hO : Ok m) (t : Fin (cfgM m hO).N) : Fin 10 := ⟨t.val / 16, by have := point_lt m hO t; omega⟩

/-- A point's token, from its position in the tile. -/
def token (hO : Ok m) (t : Fin (cfgM m hO).N) (s : Fin 1024) : Fin 16384 := ⟨t.val % 16 * 1024 + s.val, by omega⟩

/-- Where the point's block of the hidden codes lies. -/
theorem emb0 (hO : Ok m) (t : Fin (cfgM m hO).N) (s k : Fin 1024) :
    (((cfgM m hO).win 0).blk t).view.emb (ix3 0 s k : S1x1024x1024.Idx) = (ix3 (batch m hO t) (token m hO t s) k : S10x16384x1024.Idx) := by
  have h := (index_eq t).1
  funext a
  apply Fin.ext
  fin_cases a
  · show cc0_transform_0 (grid0.coords t) 0 * 1 + 1 * 0 = t.val / 16
    rw [h]; simp
  · show cc0_transform_0 (grid0.coords t) 1 * 1024 + 1 * s.val = t.val % 16 * 1024 + s.val
    rw [h]; simp
  · show cc0_transform_0 (grid0.coords t) 2 * 1024 + 1 * k.val = k.val
    rw [h]; simp

/-- Where the point's block of the hidden scales lies. -/
theorem emb1 (hO : Ok m) (t : Fin (cfgM m hO).N) (j : Fin 8) (s : Fin 1024) :
    (((cfgM m hO).win 1).blk t).view.emb (ix3 0 j s : S1x8x1024.Idx) = (ix3 (batch m hO t) j (token m hO t s) : S10x8x16384.Idx) := by
  have h := (index_eq t).2.1
  funext a
  apply Fin.ext
  fin_cases a
  · show cc0_transform_1 (grid0.coords t) 0 * 1 + 1 * 0 = t.val / 16
    rw [h]; simp
  · show cc0_transform_1 (grid0.coords t) 1 * 8 + 1 * j.val = j.val
    rw [h]; simp
  · show cc0_transform_1 (grid0.coords t) 2 * 1024 + 1 * s.val = t.val % 16 * 1024 + s.val
    rw [h]; simp

/-- The weight codes' block is the array. -/
theorem emb2 (hO : Ok m) (t : Fin (cfgM m hO).N) (d : Fin 320) (k : Fin 1024) :
    (((cfgM m hO).win 2).blk t).view.emb (ix2 d k : S320x1024.Idx) = (ix2 d k : S320x1024.Idx) := by
  have h := (index_eq t).2.2.1
  funext a
  apply Fin.ext
  fin_cases a
  · show cc0_transform_2 (grid0.coords t) 0 * 320 + 1 * d.val = d.val
    rw [h]; simp
  · show cc0_transform_2 (grid0.coords t) 1 * 1024 + 1 * k.val = k.val
    rw [h]; simp

/-- The weight scales' block is the array. -/
theorem emb3 (hO : Ok m) (t : Fin (cfgM m hO).N) (r : Fin 3) (j : Fin 8) :
    (((cfgM m hO).win 3).blk t).view.emb (ix2 r j : S3x8.Idx) = (ix2 r j : S3x8.Idx) := by
  have h := (index_eq t).2.2.2.1
  funext a
  apply Fin.ext
  fin_cases a
  · show cc0_transform_3 (grid0.coords t) 0 * 3 + 1 * r.val = r.val
    rw [h]; simp
  · show cc0_transform_3 (grid0.coords t) 1 * 8 + 1 * j.val = j.val
    rw [h]; simp

/-- The gains' block is the column. -/
theorem emb4 (hO : Ok m) (t : Fin (cfgM m hO).N) (d : Fin 256) :
    (((cfgM m hO).win 4).blk t).view.emb (ix2 d 0 : S256x1.Idx) = (ix2 d 0 : S256x1.Idx) := by
  have h := (index_eq t).2.2.2.2.1
  funext a
  apply Fin.ext
  fin_cases a
  · show cc0_transform_4 (grid0.coords t) 0 * 256 + 1 * d.val = d.val
    rw [h]; simp
  · show cc0_transform_4 (grid0.coords t) 1 * 1 + 1 * 0 = 0
    rw [h]; simp

/-- Where the point's block of the codes lies. -/
theorem emb7 (hO : Ok m) (t : Fin (cfgM m hO).N) (s : Fin 1024) (d : Fin 256) :
    (((cfgM m hO).win 7).blk t).view.emb (ix3 0 s d : S1x1024x256.Idx) = (ix3 (batch m hO t) (token m hO t s) d : S10x16384x256.Idx) := by
  have h := (index_eq t).2.2.2.2.2.1
  funext a
  apply Fin.ext
  fin_cases a
  · show cc0_transform_7 (grid0.coords t) 0 * 1 + 1 * 0 = t.val / 16
    rw [h]; simp
  · show cc0_transform_7 (grid0.coords t) 1 * 1024 + 1 * s.val = t.val % 16 * 1024 + s.val
    rw [h]; simp
  · show cc0_transform_7 (grid0.coords t) 2 * 256 + 1 * d.val = d.val
    rw [h]; simp

/-- Where the point's block of the scales lies. -/
theorem emb8 (hO : Ok m) (t : Fin (cfgM m hO).N) (r : Fin 2) (s : Fin 1024) :
    (((cfgM m hO).win 8).blk t).view.emb (ix3 0 r s : S1x2x1024.Idx) = (ix3 (batch m hO t) r (token m hO t s) : S10x2x16384.Idx) := by
  have h := (index_eq t).2.2.2.2.2.2
  funext a
  apply Fin.ext
  fin_cases a
  · show cc0_transform_8 (grid0.coords t) 0 * 1 + 1 * 0 = t.val / 16
    rw [h]; simp
  · show cc0_transform_8 (grid0.coords t) 1 * 2 + 1 * r.val = r.val
    rw [h]; simp
  · show cc0_transform_8 (grid0.coords t) 2 * 1024 + 1 * s.val = t.val % 16 * 1024 + s.val
    rw [h]; simp

/-! ## The input blocks at an index -/

/-- The hidden codes' block. -/
theorem blk0_apply (hO : Ok m) (c : Dev nD) (t : Fin (cfgM m hO).N) (s k : Fin 1024) :
    (iblk m hO c 0 t : Vec F S1x1024x1024 .fp8e4m3) (ix3 0 s k)
      = (m ((c : Thread nD τ).loc main_arg0) : Vec F S10x16384x1024 .fp8e4m3) (ix3 (batch m hO t) (token m hO t s) k) :=
  (congrArg (V m c main_arg0 : Vec F S10x16384x1024 .fp8e4m3) (emb0 m hO t s k)).trans (congrFun (V_main_arg0 m c) _)

/-- The hidden scales' block. -/
theorem blk1_apply (hO : Ok m) (c : Dev nD) (t : Fin (cfgM m hO).N) (j : Fin 8) (s : Fin 1024) :
    (iblk m hO c 1 t : Vec F S1x8x1024 .f32) (ix3 0 j s)
      = (m ((c : Thread nD τ).loc main_arg1) : Vec F S10x16384x8 .f32) (ix3 (batch m hO t) (token m hO t s) j) :=
  ((congrArg (V m c main_v13 : Vec F S10x8x16384 .f32) (emb1 m hO t j s)).trans (congrFun (V_main_v13 m c) _)).trans
    (v13_apply _ _ _ _)

/-- The weight codes' block. -/
theorem blk2_apply (hO : Ok m) (c : Dev nD) (t : Fin (cfgM m hO).N) (d : Fin 320) (k : Fin 1024) :
    (iblk m hO c 2 t : Vec F S320x1024 .fp8e4m3) (ix2 d k)
      = (m ((c : Thread nD τ).loc main_arg2) : Vec F S1024x320 .fp8e4m3) (ix2 k d) :=
  ((congrArg (V m c main_v14 : Vec F S320x1024 .fp8e4m3) (emb2 m hO t d k)).trans (congrFun (V_main_v14 m c) _)).trans
    (v14_apply _ _ _)

/-- The weight scales' block. -/
theorem blk3_apply (hO : Ok m) (c : Dev nD) (t : Fin (cfgM m hO).N) (r : Fin 3) (j : Fin 8) :
    (iblk m hO c 3 t : Vec F S3x8 .f32) (ix2 r j)
      = (m ((c : Thread nD τ).loc main_arg3) : Vec F S8x3 .f32) (ix2 j r) :=
  ((congrArg (V m c main_v15 : Vec F S3x8 .f32) (emb3 m hO t r j)).trans (congrFun (V_main_v15 m c) _)).trans
    (v15_apply _ _ _)

/-- The gains' block. -/
theorem blk4_apply (hO : Ok m) (c : Dev nD) (t : Fin (cfgM m hO).N) (d : Fin 256) :
    (iblk m hO c 4 t : Vec F S256x1 .f32) (ix2 d 0)
      = (m ((c : Thread nD τ).loc main_arg4) : Vec F S256 .f32) (ix1 d) :=
  ((congrArg (V m c main_v16 : Vec F S256x1 .f32) (emb4 m hO t d)).trans (congrFun (V_main_v16 m c) _)).trans
    (v16_apply _ _)

/-! ## Every index of a result is in a written block -/

/-- The point of a token. -/
def pointOf (hO : Ok m) (b : Fin 10) (t : Fin 16384) : Fin (cfgM m hO).N :=
  ⟨16 * b.val + t.val / 1024, by show _ < 160; omega⟩

/-- The codes' blocks cover their array. -/
theorem covered7 (hO : Ok m) (i : S10x16384x256.Idx) :
    ∃ t : Fin (cfgM m hO).N, ((cfgM m hO).win 7).flush t = true ∧ i ∈ (((cfgM m hO).win 7).blk t).view.set := by
  obtain ⟨b, t, d, rfl⟩ : ∃ (b : Fin 10) (t : Fin 16384) (d : Fin 256), i = ix3 b t d := ⟨i 0, i 1, i 2, eq_ix3 i⟩
  refine ⟨pointOf m hO b t, flush0_7 _ _, ?_⟩
  have h := (((cfgM m hO).win 7).blk (pointOf m hO b t)).view.emb_mem_set
    (ix3 0 ⟨t.val % 1024, Nat.mod_lt _ (by decide)⟩ d : S1x1024x256.Idx)
  rw [emb7] at h
  have e : (ix3 (batch m hO (pointOf m hO b t)) (token m hO (pointOf m hO b t) ⟨t.val % 1024, Nat.mod_lt _ (by decide)⟩) d
      : S10x16384x256.Idx) = ix3 b t d := by
    congr 1 <;> (apply Fin.ext; simp only [batch, token, pointOf]; omega)
  rwa [e] at h

/-- The scales' blocks cover their array. -/
theorem covered8 (hO : Ok m) (i : S10x2x16384.Idx) :
    ∃ t : Fin (cfgM m hO).N, ((cfgM m hO).win 8).flush t = true ∧ i ∈ (((cfgM m hO).win 8).blk t).view.set := by
  obtain ⟨b, r, t, rfl⟩ : ∃ (b : Fin 10) (r : Fin 2) (t : Fin 16384), i = ix3 b r t := ⟨i 0, i 1, i 2, eq_ix3 i⟩
  refine ⟨pointOf m hO b t, flush0_8 _ _, ?_⟩
  have h := (((cfgM m hO).win 8).blk (pointOf m hO b t)).view.emb_mem_set
    (ix3 0 r ⟨t.val % 1024, Nat.mod_lt _ (by decide)⟩ : S1x2x1024.Idx)
  rw [emb8] at h
  have e : (ix3 (batch m hO (pointOf m hO b t)) r (token m hO (pointOf m hO b t) ⟨t.val % 1024, Nat.mod_lt _ (by decide)⟩)
      : S10x2x16384.Idx) = ix3 b r t := by
    congr 1 <;> (apply Fin.ext; simp only [batch, token, pointOf]; omega)
  rwa [e] at h

end Cert.KernelIdeal.Gen
-- ==== Proof.Tile.lean ====
/- What one 256-token chunk of a tile computes, as a function of the loaded blocks alone. -/
module

public import proofs.«01_k».proof.Proof.KernelFrame

@[expose] public section

noncomputable section

namespace Cert.KernelIdeal.Gen

open Idealize.ShloMosaic Idealize.ShloMosaic.TcCoe Idealize.ShloMosaic.Tactic

variable {F : FTy → Type} [FloatOps F]

/-- One step of the binary search for the exponent of `q`: keep the bit `k` when `2^(n+k)`, written
by its bits, is still at most `q`. -/
def stepE (k : BitVec 32) (q : FVec F S1x256 .f32) (n : IVec S1x256 32) : IVec S1x256 32 :=
  select
    (cmpf .oge q (bitcastToFloat .f32
      (shli (addi n (broadcast S1x256 k)) (broadcast S1x256 23#32)) : FVec F S1x256 .f32))
    (addi n (broadcast S1x256 k)) n

/-- The biased exponent of `q`, by eight steps from the greatest bit down. -/
def expoE (q : FVec F S1x256 .f32) : IVec S1x256 32 :=
  stepE 1#32 q (stepE 2#32 q (stepE 4#32 q (stepE 8#32 q (stepE 16#32 q (stepE 32#32 q
    (stepE 64#32 q (stepE 128#32 q (broadcast S1x256 0#32))))))))

/-- The power of two one above the exponent `n`; one when the exponent field is zero. -/
def scaleE (n : IVec S1x256 32) : FVec F S1x256 .f32 :=
  bitcastToFloat .f32 (shli (select (cmpi .eq n (broadcast S1x256 0#32)) (broadcast S1x256 127#32)
    (addi n (broadcast S1x256 1#32))) (broadcast S1x256 23#32))

/-- Its reciprocal. -/
def invE (n : IVec S1x256 32) : FVec F S1x256 .f32 :=
  bitcastToFloat .f32 (shli (select (cmpi .eq n (broadcast S1x256 0#32)) (broadcast S1x256 127#32)
    (subi (broadcast S1x256 253#32) n)) (broadcast S1x256 23#32))

/-- The greatest magnitude of a group over 448, for each token. -/
def amaxE (y : FVec F S128x256 .f32) : FVec F S1x256 .f32 :=
  mulf (shapeCast S1x256
      (multiReduction .maximumf [0] S256 (absf y) 0xFF800000#32 reduces_S128x256_S256 (.inl rfl) rfl)
      shapeCasts_S256_S1x256)
    (broadcast S1x256 (Scalar.ofBits .f32 0x3B124925#32 : F .f32))

/-- A group scaled, clipped to the range of the eight-bit format, and rounded to it. -/
def quantE (y : FVec F S128x256 .f32) (n : IVec S1x256 32) : FVec F S128x256 .fp8e4m3 :=
  truncf .fp8e4m3
    (minimumf (broadcast S128x256 (Scalar.ofBits .f32 0x43E00000#32 : F .f32))
      (maximumf (broadcast S128x256 (Scalar.ofBits .f32 0xC3E00000#32 : F .f32))
        (mulf y (broadcastTo S128x256 (invE n) broadcasts_S1x256_S128x256))))
    bitsLt_fp8e4m3_f32

/-- One 128-column block of hidden codes times its scales. -/
def blockE (h : FVec F S256x1 .bf16) (x : Vec F S1x256x128 .fp8e4m3) : FVec F S256x128 .bf16 :=
  mulf (extf .bf16 (shapeCast S256x128 x shapeCasts_S1x256x128_S256x128) bitsLt_fp8e4m3_bf16)
    (broadcastTo S256x128 h broadcasts_S256x1_S256x128)

/-- The chunk's scales, a row for each token. -/
def hsE (h : Vec F S1x8x256 .f32) : FVec F S256x8 .bf16 :=
  truncf .bf16 (transpose S256x8 [1, 0] (shapeCast S8x256 h shapeCasts_S1x8x256_S8x256)
    transposes_S8x256_p1_0_S256x8) bitsLt_bf16_f32

/-- The chunk's dequantised hidden states. -/
def hiddenE (h : FVec F S256x8 .bf16) (x0 x1 x2 x3 x4 x5 x6 x7 : Vec F S1x256x128 .fp8e4m3) :
    FVec F S256x1024 .bf16 :=
  concatenate S256x1024 1
    [⟨S256x128, blockE (extractStridedSlice S256x1 ![0, 0] h slices_S256x8_o0_0_S256x1) x0⟩,
     ⟨S256x128, blockE (extractStridedSlice S256x1 ![0, 1] h slices_S256x8_o0_1_S256x1) x1⟩,
     ⟨S256x128, blockE (extractStridedSlice S256x1 ![0, 2] h slices_S256x8_o0_2_S256x1) x2⟩,
     ⟨S256x128, blockE (extractStridedSlice S256x1 ![0, 3] h slices_S256x8_o0_3_S256x1) x3⟩,
     ⟨S256x128, blockE (extractStridedSlice S256x1 ![0, 4] h slices_S256x8_o0_4_S256x1) x4⟩,
     ⟨S256x128, blockE (extractStridedSlice S256x1 ![0, 5] h slices_S256x8_o0_5_S256x1) x5⟩,
     ⟨S256x128, blockE (extractStridedSlice S256x1 ![0, 6] h slices_S256x8_o0_6_S256x1) x6⟩,
     ⟨S256x128, blockE (extractStridedSlice S256x1 ![0, 7] h slices_S256x8_o0_7_S256x1) x7⟩]
    concatenates_S256x128_S256x128_S256x128_S256x128_S256x128_S256x128_S256x128_S256x128_S256x1024_d1

/-- The down-projection of the chunk: the weights against the hidden states. -/
def kvE (w : Vec F S320x1024 .bf16) (x : FVec F S256x1024 .bf16) : FVec F S320x256 .f32 :=
  extf .f32 (truncf .bf16
    (matmul dot_S320x1024_S256x1024_S320x256_1_1_0_0_n_n none w x
      (constant S320x256 .f32 0x00000000#32)) bitsLt_bf16_f32) bitsLt_bf16_f32

/-- The latent rows divided by their root mean square and multiplied by the gains. -/
def normE (g : Vec F S256x1 .f32) (kv : FVec F S320x256 .f32) : FVec F S256x256 .f32 :=
  mulf (mulf (extractStridedSlice S256x256 ![0, 0] kv slices_S320x256_o0_0_S256x256)
      (broadcastTo S256x256
        (rsqrt (addf (mulf (shapeCast S1x256
            (multiReduction .add [0] S256
              (mulf (extractStridedSlice S256x256 ![0, 0] kv slices_S320x256_o0_0_S256x256)
                (extractStridedSlice S256x256 ![0, 0] kv slices_S320x256_o0_0_S256x256))
              0x00000000#32 reduces_S256x256_S256 (.inl rfl) rfl) shapeCasts_S256_S1x256)
          (broadcast S1x256 (Scalar.ofBits .f32 0x3B800000#32 : F .f32)))
          (broadcast S1x256 (Scalar.ofBits .f32 0x358637BD#32 : F .f32))))
        broadcasts_S1x256_S256x256))
    (broadcastTo S256x256 (shapeCast S256x1 g shapeCasts_S256x1_S256x1) broadcasts_S256x1_S256x256)

/-- The first group of the normalised latent. -/
def loE (y : FVec F S256x256 .f32) : FVec F S128x256 .f32 :=
  extractStridedSlice S128x256 ![0, 0] y slices_S256x256_o0_0_S128x256

/-- The second group. -/
def hiE (y : FVec F S256x256 .f32) : FVec F S128x256 .f32 :=
  extractStridedSlice S128x256 ![128, 0] y slices_S256x256_o128_0_S128x256

/-- The two groups' scales. -/
def scalesE (y : FVec F S256x256 .f32) : FVec F S1x2x256 .f32 :=
  shapeCast S1x2x256 (concatenate S2x256 0
    [⟨S1x256, (scaleE (expoE (amaxE (loE y))) : FVec F S1x256 .f32)⟩,
     ⟨S1x256, (scaleE (expoE (amaxE (hiE y))) : FVec F S1x256 .f32)⟩]
    concatenates_S1x256_S1x256_S2x256_d0) shapeCasts_S2x256_S1x2x256

/-- The two groups' codes, still a row for each column of the latent. -/
def codesTE (y : FVec F S256x256 .f32) : FVec F S256x256 .fp8e4m3 :=
  concatenate S256x256 0
    [⟨S128x256, quantE (loE y) (expoE (amaxE (loE y)))⟩,
     ⟨S128x256, quantE (hiE y) (expoE (amaxE (hiE y)))⟩]
    concatenates_S128x256_S128x256_S256x256_d0

/-- The two groups' codes, a row for each token. -/
def codesE (y : FVec F S256x256 .f32) : FVec F S1x256x256 .fp8e4m3 :=
  k0_pay100 (codesTE y)

/-- A chunk's normalised latent from the loaded blocks. -/
def chunkE (w : Vec F S320x1024 .bf16) (g : Vec F S256x1 .f32) (h : Vec F S1x8x256 .f32)
    (x0 x1 x2 x3 x4 x5 x6 x7 : Vec F S1x256x128 .fp8e4m3) : FVec F S256x256 .f32 :=
  normE g (kvE w (hiddenE (hsE h) x0 x1 x2 x3 x4 x5 x6 x7))

end Cert.KernelIdeal.Gen
-- ==== Proof.PiecesB.lean ====
/- The pieces a later point's run leaves in the codes' and in the scales' tile, chunk by chunk. -/
module

public import proofs.«01_k».proof.Proof.Tile

@[expose] public section

noncomputable section

namespace Cert.KernelIdeal.Gen

open Idealize.ShloMosaic Idealize.ShloMosaic.TcCoe Idealize.ShloMosaic.Tactic

variable {F : FTy → Type} [FloatOps F]

/-- The normalised latent of chunk 0 of a tile, from the weights, the gains, the tile's codes and their scales. -/
def chunk0 (W : Vec F S320x1024 .bf16) (G : Vec F S256x1 .f32) (X : Vec F S1x1024x1024 .fp8e4m3)
    (H : Vec F S1x8x1024 .f32) : FVec F S256x256 .f32 :=
  chunkE (View.ld W (Rect.unit ![0, 0] S320x1024.size inb_S320x1024_S320x1024_0_0))
    (View.ld G (Rect.unit ![0, 0] S256x1.size inb_S256x1_S256x1_0_0))
    (View.ld H (Rect.unit ![0, 0, 0] S1x8x256.size inb_S1x8x1024_S1x8x256_0_0_0))
    (View.ld X (Rect.unit ![0, 0, 0] S1x256x128.size inb_S1x1024x1024_S1x256x128_0_0_0))
    (View.ld X (Rect.unit ![0, 0, 128] S1x256x128.size inb_S1x1024x1024_S1x256x128_0_0_128))
    (View.ld X (Rect.unit ![0, 0, 256] S1x256x128.size inb_S1x1024x1024_S1x256x128_0_0_256))
    (View.ld X (Rect.unit ![0, 0, 384] S1x256x128.size inb_S1x1024x1024_S1x256x128_0_0_384))
    (View.ld X (Rect.unit ![0, 0, 512] S1x256x128.size inb_S1x1024x1024_S1x256x128_0_0_512))
    (View.ld X (Rect.unit ![0, 0, 640] S1x256x128.size inb_S1x1024x1024_S1x256x128_0_0_640))
    (View.ld X (Rect.unit ![0, 0, 768] S1x256x128.size inb_S1x1024x1024_S1x256x128_0_0_768))
    (View.ld X (Rect.unit ![0, 0, 896] S1x256x128.size inb_S1x1024x1024_S1x256x128_0_0_896))

/-- The normalised latent of chunk 1 of a tile, from the weights, the gains, the tile's codes and their scales. -/
def chunk1 (W : Vec F S320x1024 .bf16) (G : Vec F S256x1 .f32) (X : Vec F S1x1024x1024 .fp8e4m3)
    (H : Vec F S1x8x1024 .f32) : FVec F S256x256 .f32 :=
  chunkE (View.ld W (Rect.unit ![0, 0] S320x1024.size inb_S320x1024_S320x1024_0_0))
    (View.ld G (Rect.unit ![0, 0] S256x1.size inb_S256x1_S256x1_0_0))
    (View.ld H (Rect.unit ![0, 0, 256] S1x8x256.size inb_S1x8x1024_S1x8x256_0_0_256))
    (View.ld X (Rect.unit ![0, 256, 0] S1x256x128.size inb_S1x1024x1024_S1x256x128_0_256_0))
    (View.ld X (Rect.unit ![0, 256, 128] S1x256x128.size inb_S1x1024x1024_S1x256x128_0_256_128))
    (View.ld X (Rect.unit ![0, 256, 256] S1x256x128.size inb_S1x1024x1024_S1x256x128_0_256_256))
    (View.ld X (Rect.unit ![0, 256, 384] S1x256x128.size inb_S1x1024x1024_S1x256x128_0_256_384))
    (View.ld X (Rect.unit ![0, 256, 512] S1x256x128.size inb_S1x1024x1024_S1x256x128_0_256_512))
    (View.ld X (Rect.unit ![0, 256, 640] S1x256x128.size inb_S1x1024x1024_S1x256x128_0_256_640))
    (View.ld X (Rect.unit ![0, 256, 768] S1x256x128.size inb_S1x1024x1024_S1x256x128_0_256_768))
    (View.ld X (Rect.unit ![0, 256, 896] S1x256x128.size inb_S1x1024x1024_S1x256x128_0_256_896))

/-- The normalised latent of chunk 2 of a tile, from the weights, the gains, the tile's codes and their scales. -/
def chunk2 (W : Vec F S320x1024 .bf16) (G : Vec F S256x1 .f32) (X : Vec F S1x1024x1024 .fp8e4m3)
    (H : Vec F S1x8x1024 .f32) : FVec F S256x256 .f32 :=
  chunkE (View.ld W (Rect.unit ![0, 0] S320x1024.size inb_S320x1024_S320x1024_0_0))
    (View.ld G (Rect.unit ![0, 0] S256x1.size inb_S256x1_S256x1_0_0))
    (View.ld H (Rect.unit ![0, 0, 512] S1x8x256.size inb_S1x8x1024_S1x8x256_0_0_512))
    (View.ld X (Rect.unit ![0, 512, 0] S1x256x128.size inb_S1x1024x1024_S1x256x128_0_512_0))
    (View.ld X (Rect.unit ![0, 512, 128] S1x256x128.size inb_S1x1024x1024_S1x256x128_0_512_128))
    (View.ld X (Rect.unit ![0, 512, 256] S1x256x128.size inb_S1x1024x1024_S1x256x128_0_512_256))
    (View.ld X (Rect.unit ![0, 512, 384] S1x256x128.size inb_S1x1024x1024_S1x256x128_0_512_384))
    (View.ld X (Rect.unit ![0, 512, 512] S1x256x128.size inb_S1x1024x1024_S1x256x128_0_512_512))
    (View.ld X (Rect.unit ![0, 512, 640] S1x256x128.size inb_S1x1024x1024_S1x256x128_0_512_640))
    (View.ld X (Rect.unit ![0, 512, 768] S1x256x128.size inb_S1x1024x1024_S1x256x128_0_512_768))
    (View.ld X (Rect.unit ![0, 512, 896] S1x256x128.size inb_S1x1024x1024_S1x256x128_0_512_896))

/-- The normalised latent of chunk 3 of a tile, from the weights, the gains, the tile's codes and their scales. -/
def chunk3 (W : Vec F S320x1024 .bf16) (G : Vec F S256x1 .f32) (X : Vec F S1x1024x1024 .fp8e4m3)
    (H : Vec F S1x8x1024 .f32) : FVec F S256x256 .f32 :=
  chunkE (View.ld W (Rect.unit ![0, 0] S320x1024.size inb_S320x1024_S320x1024_0_0))
    (View.ld G (Rect.unit ![0, 0] S256x1.size inb_S256x1_S256x1_0_0))
    (View.ld H (Rect.unit ![0, 0, 768] S1x8x256.size inb_S1x8x1024_S1x8x256_0_0_768))
    (View.ld X (Rect.unit ![0, 768, 0] S1x256x128.size inb_S1x1024x1024_S1x256x128_0_768_0))
    (View.ld X (Rect.unit ![0, 768, 128] S1x256x128.size inb_S1x1024x1024_S1x256x128_0_768_128))
    (View.ld X (Rect.unit ![0, 768, 256] S1x256x128.size inb_S1x1024x1024_S1x256x128_0_768_256))
    (View.ld X (Rect.unit ![0, 768, 384] S1x256x128.size inb_S1x1024x1024_S1x256x128_0_768_384))
    (View.ld X (Rect.unit ![0, 768, 512] S1x256x128.size inb_S1x1024x1024_S1x256x128_0_768_512))
    (View.ld X (Rect.unit ![0, 768, 640] S1x256x128.size inb_S1x1024x1024_S1x256x128_0_768_640))
    (View.ld X (Rect.unit ![0, 768, 768] S1x256x128.size inb_S1x1024x1024_S1x256x128_0_768_768))
    (View.ld X (Rect.unit ![0, 768, 896] S1x256x128.size inb_S1x1024x1024_S1x256x128_0_768_896))

/-- The four pieces of the codes' tile, the last stored first. -/
def codesL (W : Vec F S320x1024 .bf16) (G : Vec F S256x1 .f32) (X : Vec F S1x1024x1024 .fp8e4m3)
    (H : Vec F S1x8x1024 .f32) : List (View.Piece (Elt F) S1x1024x256 .fp8e4m3) :=
  [⟨Rect.unit ![0, 768, 0] S1x256x256.size inb_S1x1024x256_S1x256x256_0_768_0, codesE (chunk3 W G X H)⟩,
   ⟨Rect.unit ![0, 512, 0] S1x256x256.size inb_S1x1024x256_S1x256x256_0_512_0, codesE (chunk2 W G X H)⟩,
   ⟨Rect.unit ![0, 256, 0] S1x256x256.size inb_S1x1024x256_S1x256x256_0_256_0, codesE (chunk1 W G X H)⟩,
   ⟨Rect.unit ![0, 0, 0] S1x256x256.size inb_S1x1024x256_S1x256x256_0_0_0, codesE (chunk0 W G X H)⟩]

/-- The four pieces of the scales' tile, the last stored first. -/
def scalesL (W : Vec F S320x1024 .bf16) (G : Vec F S256x1 .f32) (X : Vec F S1x1024x1024 .fp8e4m3)
    (H : Vec F S1x8x1024 .f32) : List (View.Piece (Elt F) S1x2x1024 .f32) :=
  [⟨Rect.unit ![0, 0, 768] S1x2x256.size inb_S1x2x1024_S1x2x256_0_0_768, scalesE (chunk3 W G X H)⟩,
   ⟨Rect.unit ![0, 0, 512] S1x2x256.size inb_S1x2x1024_S1x2x256_0_0_512, scalesE (chunk2 W G X H)⟩,
   ⟨Rect.unit ![0, 0, 256] S1x2x256.size inb_S1x2x1024_S1x2x256_0_0_256, scalesE (chunk1 W G X H)⟩,
   ⟨Rect.unit ![0, 0, 0] S1x2x256.size inb_S1x2x1024_S1x2x256_0_0_0, scalesE (chunk0 W G X H)⟩]

variable (m : (ℓ : Loc nD τ sig) → Buf (Elt F) ℓ)

/-- A later point's codes: the pieces of `codesL` at the weights the scratch holds. -/
theorem runB_7 (hO : Ok m) (hH : Hyps m hO) (c : Dev nD) (t : Fin (cfgM m hO).N) (h0 : ¬t.val % 160 = 0)
    (xs0 : Vec F S320x1024 .bf16) :
    (runB m hO hH c t h0 xs0).1
      = codesL ((scM0_0).view.read (Elt F) ((Memref.isWhole_whole _).unread xs0))
          ((ms0_4 m hO t).view.read (Elt F) ((hs0_4 m hO t).unread (iblk m hO c 4 t)))
          ((ms0_0 m hO t).view.read (Elt F) ((hs0_0 m hO t).unread (iblk m hO c 0 t)))
          ((ms0_1 m hO t).view.read (Elt F) ((hs0_1 m hO t).unread (iblk m hO c 1 t))) := by
  rfl

/-- A later point's scales: the pieces of `scalesL` at the weights the scratch holds. -/
theorem runB_8 (hO : Ok m) (hH : Hyps m hO) (c : Dev nD) (t : Fin (cfgM m hO).N) (h0 : ¬t.val % 160 = 0)
    (xs0 : Vec F S320x1024 .bf16) :
    (runB m hO hH c t h0 xs0).2.1
      = scalesL ((scM0_0).view.read (Elt F) ((Memref.isWhole_whole _).unread xs0))
          ((ms0_4 m hO t).view.read (Elt F) ((hs0_4 m hO t).unread (iblk m hO c 4 t)))
          ((ms0_0 m hO t).view.read (Elt F) ((hs0_0 m hO t).unread (iblk m hO c 0 t)))
          ((ms0_1 m hO t).view.read (Elt F) ((hs0_1 m hO t).unread (iblk m hO c 1 t))) := by
  rfl

end Cert.KernelIdeal.Gen
-- ==== Proof.PiecesA.lean ====
/- The first point's pieces, and the two tiles every point leaves, by one formula. -/
module

public import proofs.«01_k».proof.Proof.PiecesB

@[expose] public section

noncomputable section

namespace Cert.KernelIdeal.Gen

open Idealize.ShloMosaic Idealize.ShloMosaic.TcCoe Idealize.ShloMosaic.Tactic

variable {F : FTy → Type} [FloatOps F]

variable (m : (ℓ : Loc nD τ sig) → Buf (Elt F) ℓ)

/-- The first point's codes: the pieces of `codesL` at the weights that point has just written. -/
theorem runA_7 (hO : Ok m) (hH : Hyps m hO) (c : Dev nD) (t : Fin (cfgM m hO).N) (h0 : t.val % 160 = 0) :
    (runA m hO hH c t h0).1
      = codesL ((scM0_0).view.read (Elt F) ((scM0_0).view.writes (Elt F) (scM0_0).view.junk (runA m hO hH c t h0).2.2.1))
          ((ms0_4 m hO t).view.read (Elt F) ((hs0_4 m hO t).unread (iblk m hO c 4 t)))
          ((ms0_0 m hO t).view.read (Elt F) ((hs0_0 m hO t).unread (iblk m hO c 0 t)))
          ((ms0_1 m hO t).view.read (Elt F) ((hs0_1 m hO t).unread (iblk m hO c 1 t))) := by
  rfl

/-- The first point's scales: the pieces of `scalesL` at the weights that point has just written. -/
theorem runA_8 (hO : Ok m) (hH : Hyps m hO) (c : Dev nD) (t : Fin (cfgM m hO).N) (h0 : t.val % 160 = 0) :
    (runA m hO hH c t h0).2.1
      = scalesL ((scM0_0).view.read (Elt F) ((scM0_0).view.writes (Elt F) (scM0_0).view.junk (runA m hO hH c t h0).2.2.1))
          ((ms0_4 m hO t).view.read (Elt F) ((hs0_4 m hO t).unread (iblk m hO c 4 t)))
          ((ms0_0 m hO t).view.read (Elt F) ((hs0_0 m hO t).unread (iblk m hO c 0 t)))
          ((ms0_1 m hO t).view.read (Elt F) ((hs0_1 m hO t).unread (iblk m hO c 1 t))) := by
  rfl

/-- The weights the first point writes are the ones later points read. -/
theorem read_first (hO : Ok m) (hH : Hyps m hO) (c : Dev nD) (t : Fin (cfgM m hO).N) (h0 : t.val % 160 = 0) :
    (scM0_0).view.read (Elt F) ((scM0_0).view.writes (Elt F) (scM0_0).view.junk (runA m hO hH c t h0).2.2.1)
      = wScr m hO hH c := by
  have ht : t = pt0 m hO := Fin.ext (by
    have h1 := t.isLt; have h2 : (cfgM m hO).N = 160 := N_0
    show t.val = 0; omega)
  subst ht; rfl

/-- `codesL` respects equality of its arguments. -/
theorem codesL_congr {W W' : Vec F S320x1024 .bf16} {G G' : Vec F S256x1 .f32} {X X' : Vec F S1x1024x1024 .fp8e4m3}
    {H H' : Vec F S1x8x1024 .f32} (hW : W = W') (hG : G = G') (hX : X = X') (hH : H = H') :
    codesL W G X H = codesL W' G' X' H' := by
  rw [hW, hG, hX, hH]

/-- `scalesL` respects equality of its arguments. -/
theorem scalesL_congr {W W' : Vec F S320x1024 .bf16} {G G' : Vec F S256x1 .f32} {X X' : Vec F S1x1024x1024 .fp8e4m3}
    {H H' : Vec F S1x8x1024 .f32} (hW : W = W') (hG : G = G') (hX : X = X') (hH : H = H') :
    scalesL W G X H = scalesL W' G' X' H' := by
  rw [hW, hG, hX, hH]

/-- The codes' tile at every point: the four pieces over one another. -/
theorem codesAt_eq (hO : Ok m) (hH : Hyps m hO) (c : Dev nD) (t : Fin (cfgM m hO).N) :
    codesAt m hO hH c t
      = View.canon (codesL (wScr m hO hH c) (iblk m hO c 4 t) (iblk m hO c 0 t) (iblk m hO c 1 t)) := by
  unfold codesAt
  split
  · rename_i h0
    refine (View.read_writes_eq_canon _ _ _ (coverA_7 m hO hH c t h0)).trans ?_
    rw [runA_7, read_first]
    exact congrArg View.canon (codesL_congr rfl ((hs0_4 m hO t).read_unread _) ((hs0_0 m hO t).read_unread _)
      ((hs0_1 m hO t).read_unread _))
  · rename_i h0
    refine (View.read_writes_eq_canon _ _ _ (coverB_7 m hO hH c t h0 _)).trans ?_
    rw [runB_7]
    exact congrArg View.canon (codesL_congr ((Memref.isWhole_whole _).read_unread _) ((hs0_4 m hO t).read_unread _)
      ((hs0_0 m hO t).read_unread _) ((hs0_1 m hO t).read_unread _))

/-- The scales' tile at every point. -/
theorem scalesAt_eq (hO : Ok m) (hH : Hyps m hO) (c : Dev nD) (t : Fin (cfgM m hO).N) :
    scalesAt m hO hH c t
      = View.canon (scalesL (wScr m hO hH c) (iblk m hO c 4 t) (iblk m hO c 0 t) (iblk m hO c 1 t)) := by
  unfold scalesAt
  split
  · rename_i h0
    refine (View.read_writes_eq_canon _ _ _ (coverA_8 m hO hH c t h0)).trans ?_
    rw [runA_8, read_first]
    exact congrArg View.canon (scalesL_congr rfl ((hs0_4 m hO t).read_unread _) ((hs0_0 m hO t).read_unread _)
      ((hs0_1 m hO t).read_unread _))
  · rename_i h0
    refine (View.read_writes_eq_canon _ _ _ (coverB_8 m hO hH c t h0 _)).trans ?_
    rw [runB_8]
    exact congrArg View.canon (scalesL_congr ((Memref.isWhole_whole _).read_unread _) ((hs0_4 m hO t).read_unread _)
      ((hs0_0 m hO t).read_unread _) ((hs0_1 m hO t).read_unread _))

end Cert.KernelIdeal.Gen
-- ==== Proof.Spec.lean ====
/- The two claimed results as functions of one token's row on extended reals, and the power of two of a
group in the kernel's form (a search over exponent words) and the reference's (a logarithm). -/
module

public import Idealize.ShloMosaic.Lib.Pointwise

@[expose] public section

set_option maxRecDepth 16384

noncomputable section

namespace Cert.Latent

open Idealize.ShloMosaic

/-- A latent column of one token: the dequantised hidden row against the dequantised weight column. -/
def lat (x : Fin 1024 → EReal) (h : Fin 8 → EReal) (w : Fin 1024 → Fin 256 → EReal)
    (s : Fin 8 → Fin 2 → EReal) (d : Fin 256) : EReal :=
  ∑ k : Fin 1024, x k * h ⟨k.val / 128, by omega⟩ *
    (w k d * s ⟨k.val / 128, by omega⟩ ⟨d.val / 128, by omega⟩)

/-- The latent row over its root mean square, times the gains. -/
def normed (c g : Fin 256 → EReal) (d : Fin 256) : EReal :=
  c d * Ideal.rsqrt (Ideal.div (∑ j, c j * c j) (Ideal.ofBits .f32 0x43800000#32)
    + Ideal.ofBits .f32 0x358637BD#32) * g d

/-- The greatest magnitude of a group of 128 columns over 448. -/
def peak (y : Fin 256 → EReal) (r : Fin 2) : EReal :=
  Finset.fold max (Ideal.ofBits .f32 0xFF800000#32)
    (fun l : Fin 128 => max (y ⟨r.val * 128 + l.val, by omega⟩) (-y ⟨r.val * 128 + l.val, by omega⟩))
    Finset.univ * Ideal.ofBits .f32 0x3B124925#32

/-- The exponent of the power of two above `q`; zero below the least normal number. -/
def expo (q : EReal) : EReal :=
  if q < Ideal.ofBits .f32 0x00800000#32 then 0
  else Ideal.liftRound Int.floor (Ideal.div
    (Ideal.log (if q < Ideal.ofBits .f32 0x00800000#32 then 1 else q))
    (Ideal.log (Ideal.ofBits .f32 0x40000000#32))) + 1

/-- A group's scale. -/
def scaleOf (q : EReal) : EReal := Ideal.exp2 (expo q)

/-- A column's code under its group's scale. -/
def codeOf (y q : EReal) : EReal :=
  min (Ideal.ofBits .f32 0x43E00000#32) (max (Ideal.ofBits .f32 0xC3E00000#32)
    (y * Ideal.exp2 (0 - expo q)))

/-! ## The kernel's words -/

/-- The number whose exponent field is `n`. -/
def pw (n : BitVec 32) : EReal := Ideal.ofBits .f32 (IntOp.shli .vector n 23#32)

/-- One step of the search. -/
def stepS (k : BitVec 32) (q : EReal) (n : BitVec 32) : BitVec 32 :=
  if pw (IntOp.addi n k) ≤ q then IntOp.addi n k else n

/-- The exponent field of `q`. -/
def expoS (q : EReal) : BitVec 32 :=
  stepS 1#32 q (stepS 2#32 q (stepS 4#32 q (stepS 8#32 q (stepS 16#32 q (stepS 32#32 q
    (stepS 64#32 q (stepS 128#32 q 0#32)))))))

/-- The kernel's scale of an exponent field. -/
def scaleS (n : BitVec 32) : EReal :=
  pw (Scalar.select (IntOp.cmpi .eq n 0#32) 127#32 (IntOp.addi n 1#32))

/-- The kernel's reciprocal scale. -/
def invS (n : BitVec 32) : EReal :=
  pw (Scalar.select (IntOp.cmpi .eq n 0#32) 127#32 (IntOp.subi 253#32 n))

/-- A word that holds an exponent alone is a power of two. -/
theorem pw_eq (N : ℕ) (h0 : 1 ≤ N) (h1 : N < 255) :
    pw (BitVec.ofNat 32 N) = (((2 : ℝ) ^ ((N : ℤ) - 127) : ℝ) : EReal) := by
  have key : ∀ n : Fin 256, ((IntOp.shli .vector (BitVec.ofNat 32 n.val) 23#32).extractLsb' 23 8).toNat = n.val
      ∧ ((IntOp.shli .vector (BitVec.ofNat 32 n.val) 23#32).extractLsb' 31 1 == 1#1) = false
      ∧ ((IntOp.shli .vector (BitVec.ofNat 32 n.val) 23#32).extractLsb' 0 23).toNat = 0 := by
    decide +kernel
  obtain ⟨k1, k2, k3⟩ := key ⟨N, by omega⟩
  simp only at k1 k2 k3
  unfold pw Ideal.ofBits Ideal.ieee
  generalize IntOp.shli .vector (BitVec.ofNat 32 N) 23#32 = b at k1 k2 k3 ⊢
  simp only [k1, k2, k3]
  rw [if_neg (by omega), if_neg (by omega)]
  refine congrArg ((↑) : ℝ → EReal) ?_
  have e : ((N : ℤ) - 127) = ((N : ℤ) - (2 ^ (8 - 1) - 1) - 23) + 23 := by norm_num
  rw [e, zpow_add₀ (by norm_num)]
  norm_num
  ring

/-- What a search step keeps: the field is at most `q`, and the field plus the step is above it. -/
theorem stepS_inv (q : EReal) (k N : ℕ) (n : BitVec 32) (hn : n = BitVec.ofNat 32 N)
    (h1 : N = 0 ∨ pw (BitVec.ofNat 32 N) ≤ q) (hk : 0 < k)
    (h2 : N + 2 * k = 256 ∨ q < pw (BitVec.ofNat 32 (N + 2 * k))) (h3 : N + 2 * k ≤ 256) :
    ∃ M : ℕ, stepS (BitVec.ofNat 32 k) q n = BitVec.ofNat 32 M ∧
      (M = 0 ∨ pw (BitVec.ofNat 32 M) ≤ q) ∧
      (M + k = 256 ∨ q < pw (BitVec.ofNat 32 (M + k))) ∧ M + k ≤ 256 := by
  have ha : IntOp.addi n (BitVec.ofNat 32 k) = BitVec.ofNat 32 (N + k) := by
    rw [hn]; exact (BitVec.ofNat_add _ _).symm
  unfold stepS
  rw [ha]
  by_cases hc : pw (BitVec.ofNat 32 (N + k)) ≤ q
  · rw [if_pos hc]
    refine ⟨N + k, rfl, .inr hc, ?_, by omega⟩
    rw [show N + k + k = N + 2 * k by ring]; exact h2
  · rw [if_neg hc]
    exact ⟨N, hn, h1, .inr (not_le.mp hc), by omega⟩

/-- The search ends at the greatest field at most `q`. -/
theorem expoS_inv (q : EReal) : ∃ N : ℕ, expoS q = BitVec.ofNat 32 N ∧
    (N = 0 ∨ pw (BitVec.ofNat 32 N) ≤ q) ∧
    (N + 1 = 256 ∨ q < pw (BitVec.ofNat 32 (N + 1))) ∧ N + 1 ≤ 256 := by
  obtain ⟨N1, e1, a1, b1, c1⟩ := stepS_inv q 128 0 0#32 rfl (.inl rfl) (by norm_num) (.inl (by norm_num)) (by norm_num)
  obtain ⟨N2, e2, a2, b2, c2⟩ := stepS_inv q 64 N1 _ e1 a1 (by norm_num) b1 c1
  obtain ⟨N3, e3, a3, b3, c3⟩ := stepS_inv q 32 N2 _ e2 a2 (by norm_num) b2 c2
  obtain ⟨N4, e4, a4, b4, c4⟩ := stepS_inv q 16 N3 _ e3 a3 (by norm_num) b3 c3
  obtain ⟨N5, e5, a5, b5, c5⟩ := stepS_inv q 8 N4 _ e4 a4 (by norm_num) b4 c4
  obtain ⟨N6, e6, a6, b6, c6⟩ := stepS_inv q 4 N5 _ e5 a5 (by norm_num) b5 c5
  obtain ⟨N7, e7, a7, b7, c7⟩ := stepS_inv q 2 N6 _ e6 a6 (by norm_num) b6 c6
  obtain ⟨N8, e8, a8, b8, c8⟩ := stepS_inv q 1 N7 _ e7 a7 (by norm_num) b7 c7
  exact ⟨N8, e8, a8, b8, c8⟩

/-- The least normal number. -/
theorem tiny_eq : Ideal.ofBits .f32 0x00800000#32 = (((2 : ℝ) ^ (-126 : ℤ) : ℝ) : EReal) :=
  (pw_eq 1 (by norm_num) (by norm_num)).trans (by norm_num)

/-- The constant two. -/
theorem two_eq : Ideal.ofBits .f32 0x40000000#32 = ((2 : ℝ) : EReal) :=
  (pw_eq 128 (by norm_num) (by norm_num)).trans (by norm_num)

/-- A power of two with a whole exponent. -/
theorem exp2_int (z : ℤ) : Ideal.exp2 (((z : ℝ)) : EReal) = (((2 : ℝ) ^ z : ℝ) : EReal) := by
  show ((Real.rpow 2 (z : ℝ) : ℝ) : EReal) = _
  congr 1
  exact Real.rpow_intCast 2 z

/-- The reference's exponent of a number between two consecutive powers of two. -/
theorem expo_eq (r : ℝ) (z : ℤ) (hz : -126 ≤ z) (h1 : (2 : ℝ) ^ z ≤ r) (h2 : r < (2 : ℝ) ^ (z + 1)) :
    expo (r : EReal) = (((z + 1 : ℤ) : ℝ) : EReal) := by
  have hr : 0 < r := lt_of_lt_of_le (by positivity) h1
  have hn : ¬ ((r : EReal) < Ideal.ofBits .f32 0x00800000#32) := by
    rw [tiny_eq, EReal.coe_lt_coe_iff, not_lt]
    exact (zpow_le_zpow_right₀ (by norm_num) hz).trans h1
  unfold expo
  rw [if_neg hn, if_neg hn, two_eq]
  have l2 : Ideal.log ((2 : ℝ) : EReal) = ((Real.log 2 : ℝ) : EReal) := by
    show (if (2 : ℝ) ≤ 0 then (⊥ : EReal) else _) = _
    rw [if_neg (by norm_num)]
  have lr : Ideal.log (r : EReal) = ((Real.log r : ℝ) : EReal) := by
    show (if r ≤ 0 then (⊥ : EReal) else _) = _
    rw [if_neg (by linarith)]
  have h2p : 0 < Real.log 2 := Real.log_pos (by norm_num)
  rw [l2, lr, Ideal.div_coe h2p.ne', ← EReal.coe_mul]
  show (((⌊Real.log r * (1 / Real.log 2)⌋ : ℤ) : ℝ) : EReal) + 1 = _
  have hf : ⌊Real.log r * (1 / Real.log 2)⌋ = z := by
    rw [Int.floor_eq_iff, mul_one_div]
    constructor
    · rw [le_div_iff₀ h2p, ← Real.log_zpow]
      exact Real.log_le_log (by positivity) h1
    · rw [div_lt_iff₀ h2p]
      have := Real.log_lt_log hr h2
      rw [Real.log_zpow] at this
      push_cast at this ⊢
      exact this
  rw [hf]
  push_cast
  rfl

/-- Both forms of the scale and of its reciprocal agree while the exponent stays in range. -/
theorem pow_eq (r : ℝ) (h0 : 0 ≤ r) (h1 : r < (2 : ℝ) ^ (126 : ℤ)) :
    scaleS (expoS (r : EReal)) = scaleOf r ∧ invS (expoS (r : EReal)) = Ideal.exp2 (0 - expo r) := by
  obtain ⟨N, e, a, b, c⟩ := expoS_inv (r : EReal)
  have hN : N < 253 := by
    by_contra hh
    rcases a with a | a
    · omega
    · have : pw (BitVec.ofNat 32 N) ≥ (((2 : ℝ) ^ (126 : ℤ) : ℝ) : EReal) := by
        by_cases h5 : N = 255
        · subst h5
          have : pw (BitVec.ofNat 32 255) = ⊤ := by
            unfold pw Ideal.ofBits Ideal.ieee
            have e1 : ((IntOp.shli .vector (BitVec.ofNat 32 255) 23#32).extractLsb' 23 8).toNat = 255 := by decide +kernel
            have e2 : ((IntOp.shli .vector (BitVec.ofNat 32 255) 23#32).extractLsb' 31 1 == 1#1) = false := by decide +kernel
            have e3 : ((IntOp.shli .vector (BitVec.ofNat 32 255) 23#32).extractLsb' 0 23).toNat = 0 := by decide +kernel
            simp only [e1, e2, e3]
            norm_num
          rw [this]; exact le_top
        · rw [pw_eq N (by omega) (by omega)]
          exact EReal.coe_le_coe_iff.mpr (zpow_le_zpow_right₀ (by norm_num) (by omega))
      exact absurd (lt_of_le_of_lt (this.trans a) (EReal.coe_lt_coe_iff.mpr h1)) (lt_irrefl _)
  unfold scaleS invS scaleOf
  rw [e]
  have b' : r < (2 : ℝ) ^ ((N : ℤ) - 126) := by
    rcases b with b | b
    · omega
    · rw [pw_eq (N + 1) (by omega) (by omega)] at b
      have := EReal.coe_lt_coe_iff.mp b
      rw [show (N : ℤ) - 126 = ((N + 1 : ℕ) : ℤ) - 127 by push_cast; ring]
      exact this
  by_cases hz : N = 0
  · subst hz
    have ht : (r : EReal) < Ideal.ofBits .f32 0x00800000#32 := by
      rw [tiny_eq]; exact EReal.coe_lt_coe_iff.mpr (by simpa using b')
    have he : expo (r : EReal) = 0 := by unfold expo; rw [if_pos ht]
    have h1' : Ideal.exp2 0 = 1 := by
      have := exp2_int 0
      simpa using this
    have hp : pw 127#32 = 1 := (pw_eq 127 (by norm_num) (by norm_num)).trans (by norm_num)
    have hs : ∀ x : BitVec 32, Scalar.select (IntOp.cmpi .eq (BitVec.ofNat 32 0) 0#32) 127#32 x = 127#32 :=
      fun x => rfl
    rw [hs, hs, he, hp, sub_zero, h1']
    exact ⟨rfl, rfl⟩
  · have hs : ∀ x : BitVec 32, Scalar.select (IntOp.cmpi .eq (BitVec.ofNat 32 N) 0#32) 127#32 x = x := by
      intro x
      have : (BitVec.ofNat 32 N == 0#32) = false := by
        rw [beq_eq_false_iff_ne]
        intro hh
        have := congrArg BitVec.toNat hh
        simp [BitVec.toNat_ofNat] at this
        omega
      unfold Scalar.select IntOp.cmpi
      simp only [this]
      rfl
    have a' : (2 : ℝ) ^ ((N : ℤ) - 127) ≤ r := by
      rcases a with a | a
      · omega
      · rw [pw_eq N (by omega) (by omega)] at a
        exact EReal.coe_le_coe_iff.mp a
    have he := expo_eq r ((N : ℤ) - 127) (by omega) a' (by rw [show (N : ℤ) - 127 + 1 = N - 126 by ring]; exact b')
    rw [hs, hs, he]
    have e1 : IntOp.addi (BitVec.ofNat 32 N) 1#32 = BitVec.ofNat 32 (N + 1) := (BitVec.ofNat_add _ _).symm
    have e2 : IntOp.subi 253#32 (BitVec.ofNat 32 N) = BitVec.ofNat 32 (253 - N) := by
      apply BitVec.eq_of_toNat_eq
      show (253#32 - BitVec.ofNat 32 N).toNat = _
      simp only [BitVec.toNat_sub, BitVec.toNat_ofNat]
      omega
    have e3 : (0 : EReal) - ((((N : ℤ) - 127 + 1 : ℤ) : ℝ) : EReal) = (((126 - (N : ℤ) : ℤ) : ℝ) : EReal) := by
      rw [zero_sub, ← EReal.coe_neg]
      congr 1
      push_cast
      ring
    rw [e1, e2, e3, exp2_int, exp2_int, pw_eq _ (by omega) (by omega), pw_eq _ (by omega) (by omega)]
    constructor
    · congr 2; push_cast; ring
    · congr 2; omega

end Cert.Latent
-- ==== Proof.Weights.lean ====
/- The dequantised weights that the first point leaves in the kernel's scratch, read at an index. -/
module

public import proofs.«01_k».proof.Proof.PiecesA
public import proofs.«01_k».proof.Proof.Spec
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

section
variable {F : FTy → Type} [FloatOps F]

/-- The stores into the scratch, last first: blocks of codes times their scales for the latent rows, anything for the
position rows. -/
def weightsL (W : Vec F S320x1024 .fp8e4m3) (S : Vec F S3x8 .f32) (p0 p1 p2 p3 p4 p5 p6 p7 p8 p9 p10 p11 p12 p13 p14 p15 : Vec F S32x128 .bf16) :
    List (View.Piece (Elt F) S320x1024 .bf16) :=
  [⟨Rect.unit ![288, 896] S32x128.size inb_S320x1024_S32x128_288_896, p15⟩,
   ⟨Rect.unit ![256, 896] S32x128.size inb_S320x1024_S32x128_256_896, p14⟩,
   ⟨Rect.unit ![128, 896] S128x128.size inb_S320x1024_S128x128_128_896, k0_pay10 (View.ld W (Rect.unit (s := S320x1024) ![128, 896] S128x128.size inb_S320x1024_S128x128_128_896)) (View.ld S (Rect.unit (s := S3x8) ![1, 7] S1x1.size inb_S3x8_S1x1_1_7))⟩,
   ⟨Rect.unit ![0, 896] S128x128.size inb_S320x1024_S128x128_0_896, k0_pay10 (View.ld W (Rect.unit (s := S320x1024) ![0, 896] S128x128.size inb_S320x1024_S128x128_0_896)) (View.ld S (Rect.unit (s := S3x8) ![0, 7] S1x1.size inb_S3x8_S1x1_0_7))⟩,
   ⟨Rect.unit ![288, 768] S32x128.size inb_S320x1024_S32x128_288_768, p13⟩,
   ⟨Rect.unit ![256, 768] S32x128.size inb_S320x1024_S32x128_256_768, p12⟩,
   ⟨Rect.unit ![128, 768] S128x128.size inb_S320x1024_S128x128_128_768, k0_pay10 (View.ld W (Rect.unit (s := S320x1024) ![128, 768] S128x128.size inb_S320x1024_S128x128_128_768)) (View.ld S (Rect.unit (s := S3x8) ![1, 6] S1x1.size inb_S3x8_S1x1_1_6))⟩,
   ⟨Rect.unit ![0, 768] S128x128.size inb_S320x1024_S128x128_0_768, k0_pay10 (View.ld W (Rect.unit (s := S320x1024) ![0, 768] S128x128.size inb_S320x1024_S128x128_0_768)) (View.ld S (Rect.unit (s := S3x8) ![0, 6] S1x1.size inb_S3x8_S1x1_0_6))⟩,
   ⟨Rect.unit ![288, 640] S32x128.size inb_S320x1024_S32x128_288_640, p11⟩,
   ⟨Rect.unit ![256, 640] S32x128.size inb_S320x1024_S32x128_256_640, p10⟩,
   ⟨Rect.unit ![128, 640] S128x128.size inb_S320x1024_S128x128_128_640, k0_pay10 (View.ld W (Rect.unit (s := S320x1024) ![128, 640] S128x128.size inb_S320x1024_S128x128_128_640)) (View.ld S (Rect.unit (s := S3x8) ![1, 5] S1x1.size inb_S3x8_S1x1_1_5))⟩,
   ⟨Rect.unit ![0, 640] S128x128.size inb_S320x1024_S128x128_0_640, k0_pay10 (View.ld W (Rect.unit (s := S320x1024) ![0, 640] S128x128.size inb_S320x1024_S128x128_0_640)) (View.ld S (Rect.unit (s := S3x8) ![0, 5] S1x1.size inb_S3x8_S1x1_0_5))⟩,
   ⟨Rect.unit ![288, 512] S32x128.size inb_S320x1024_S32x128_288_512, p9⟩,
   ⟨Rect.unit ![256, 512] S32x128.size inb_S320x1024_S32x128_256_512, p8⟩,
   ⟨Rect.unit ![128, 512] S128x128.size inb_S320x1024_S128x128_128_512, k0_pay10 (View.ld W (Rect.unit (s := S320x1024) ![128, 512] S128x128.size inb_S320x1024_S128x128_128_512)) (View.ld S (Rect.unit (s := S3x8) ![1, 4] S1x1.size inb_S3x8_S1x1_1_4))⟩,
   ⟨Rect.unit ![0, 512] S128x128.size inb_S320x1024_S128x128_0_512, k0_pay10 (View.ld W (Rect.unit (s := S320x1024) ![0, 512] S128x128.size inb_S320x1024_S128x128_0_512)) (View.ld S (Rect.unit (s := S3x8) ![0, 4] S1x1.size inb_S3x8_S1x1_0_4))⟩,
   ⟨Rect.unit ![288, 384] S32x128.size inb_S320x1024_S32x128_288_384, p7⟩,
   ⟨Rect.unit ![256, 384] S32x128.size inb_S320x1024_S32x128_256_384, p6⟩,
   ⟨Rect.unit ![128, 384] S128x128.size inb_S320x1024_S128x128_128_384, k0_pay10 (View.ld W (Rect.unit (s := S320x1024) ![128, 384] S128x128.size inb_S320x1024_S128x128_128_384)) (View.ld S (Rect.unit (s := S3x8) ![1, 3] S1x1.size inb_S3x8_S1x1_1_3))⟩,
   ⟨Rect.unit ![0, 384] S128x128.size inb_S320x1024_S128x128_0_384, k0_pay10 (View.ld W (Rect.unit (s := S320x1024) ![0, 384] S128x128.size inb_S320x1024_S128x128_0_384)) (View.ld S (Rect.unit (s := S3x8) ![0, 3] S1x1.size inb_S3x8_S1x1_0_3))⟩,
   ⟨Rect.unit ![288, 256] S32x128.size inb_S320x1024_S32x128_288_256, p5⟩,
   ⟨Rect.unit ![256, 256] S32x128.size inb_S320x1024_S32x128_256_256, p4⟩,
   ⟨Rect.unit ![128, 256] S128x128.size inb_S320x1024_S128x128_128_256, k0_pay10 (View.ld W (Rect.unit (s := S320x1024) ![128, 256] S128x128.size inb_S320x1024_S128x128_128_256)) (View.ld S (Rect.unit (s := S3x8) ![1, 2] S1x1.size inb_S3x8_S1x1_1_2))⟩,
   ⟨Rect.unit ![0, 256] S128x128.size inb_S320x1024_S128x128_0_256, k0_pay10 (View.ld W (Rect.unit (s := S320x1024) ![0, 256] S128x128.size inb_S320x1024_S128x128_0_256)) (View.ld S (Rect.unit (s := S3x8) ![0, 2] S1x1.size inb_S3x8_S1x1_0_2))⟩,
   ⟨Rect.unit ![288, 128] S32x128.size inb_S320x1024_S32x128_288_128, p3⟩,
   ⟨Rect.unit ![256, 128] S32x128.size inb_S320x1024_S32x128_256_128, p2⟩,
   ⟨Rect.unit ![128, 128] S128x128.size inb_S320x1024_S128x128_128_128, k0_pay10 (View.ld W (Rect.unit (s := S320x1024) ![128, 128] S128x128.size inb_S320x1024_S128x128_128_128)) (View.ld S (Rect.unit (s := S3x8) ![1, 1] S1x1.size inb_S3x8_S1x1_1_1))⟩,
   ⟨Rect.unit ![0, 128] S128x128.size inb_S320x1024_S128x128_0_128, k0_pay10 (View.ld W (Rect.unit (s := S320x1024) ![0, 128] S128x128.size inb_S320x1024_S128x128_0_128)) (View.ld S (Rect.unit (s := S3x8) ![0, 1] S1x1.size inb_S3x8_S1x1_0_1))⟩,
   ⟨Rect.unit ![288, 0] S32x128.size inb_S320x1024_S32x128_288_0, p1⟩,
   ⟨Rect.unit ![256, 0] S32x128.size inb_S320x1024_S32x128_256_0, p0⟩,
   ⟨Rect.unit ![128, 0] S128x128.size inb_S320x1024_S128x128_128_0, k0_pay10 (View.ld W (Rect.unit (s := S320x1024) ![128, 0] S128x128.size inb_S320x1024_S128x128_128_0)) (View.ld S (Rect.unit (s := S3x8) ![1, 0] S1x1.size inb_S3x8_S1x1_1_0))⟩,
   ⟨Rect.unit ![0, 0] S128x128.size inb_S320x1024_S128x128_0_0, k0_pay10 (View.ld W (Rect.unit (s := S320x1024) ![0, 0] S128x128.size inb_S320x1024_S128x128_0_0)) (View.ld S (Rect.unit (s := S3x8) ![0, 0] S1x1.size inb_S3x8_S1x1_0_0))⟩]

variable (m : (ℓ : Loc nD τ sig) → Buf (Elt F) ℓ)

/-- The first point's stores into the scratch are of that form. -/
theorem runA_w (hO : Ok m) (hH : Hyps m hO) (c : Dev nD) (t : Fin (cfgM m hO).N) (h0 : t.val % 160 = 0) :
    ∃ p0 p1 p2 p3 p4 p5 p6 p7 p8 p9 p10 p11 p12 p13 p14 p15, (runA m hO hH c t h0).2.2.1
      = weightsL ((ms0_2 m hO t).view.read (Elt F) ((hs0_2 m hO t).unread (iblk m hO c 2 t)))
          ((ms0_3 m hO t).view.read (Elt F) ((hs0_3 m hO t).unread (iblk m hO c 3 t))) p0 p1 p2 p3 p4 p5 p6 p7 p8 p9 p10 p11 p12 p13 p14 p15 :=
  ⟨_, _, _, _, _, _, _, _, _, _, _, _, _, _, _, _, rfl⟩

end

/-- One block of weights at an index. -/
theorem pay10_apply (w : Vec Ideal S128x128 .fp8e4m3) (s : Vec Ideal S1x1 .f32) (a b : Fin 128) :
    k0_pay10 (F := Ideal) w s (ix2 a b) = (w (ix2 a b) : EReal) * s (ix2 0 0) := by
  pointwise [k0_pay10]

/-- A block of latent rows, where it holds an index, has there the code times its scale. -/
theorem block_tile (W : Vec Ideal S320x1024 .fp8e4m3) (S : Vec Ideal S3x8 .f32) (d : Fin 320) (k : Fin 1024)
    (r c cb kb : ℕ) (hr : r = 128 * cb) (hc : c = 128 * kb)
    (inb : ∀ a : Fin 2, (![r, c] : Fin 2 → ℕ) a + S128x128.size a ≤ S320x1024.size a)
    (inb' : ∀ a : Fin 2, (![cb, kb] : Fin 2 → ℕ) a + S1x1.size a ≤ S3x8.size a) :
    View.TileAt (Val := Elt Ideal) (e := .bf16) (S := S320x1024) (ix2 d k) ![r, c] S128x128.size
      (k0_pay10 (F := Ideal) (View.ld W (Rect.unit (s := S320x1024) ![r, c] S128x128.size inb))
        (View.ld S (Rect.unit (s := S3x8) ![cb, kb] S1x1.size inb')))
      ((W (ix2 d k) : EReal) * S (ix2 ⟨d.val / 128, by omega⟩ ⟨k.val / 128, by omega⟩)) := by
  intro x hx
  obtain ⟨a, b, rfl⟩ : ∃ a b : Fin 128, x = ix2 a b := ⟨x 0, x 1, eq_ix2 x⟩
  have h0 : d.val = r + a.val := hx 0
  have h1 : k.val = c + b.val := hx 1
  have := a.isLt
  have := b.isLt
  refine (pay10_apply _ _ a b).trans (Ideal.mul_congr (congrArg W ?_) (congrArg S ?_))
  · funext i
    apply Fin.ext
    fin_cases i
    · show r + 1 * a.val = d.val
      omega
    · show c + 1 * b.val = k.val
      omega
  · funext i
    apply Fin.ext
    fin_cases i
    · show cb + 1 * 0 = d.val / 128
      omega
    · show kb + 1 * 0 = k.val / 128
      omega

/-- A block of position rows holds no latent row. -/
theorem rope_tile (d : Fin 256) (k : Fin 1024) (r c : ℕ) (hr : 256 ≤ r)
    (inb : ∀ a : Fin 2, (![r, c] : Fin 2 → ℕ) a + S32x128.size a ≤ S320x1024.size a)
    (p : Vec Ideal S32x128 .bf16) (v : Elt Ideal .bf16) :
    View.TileAt (Val := Elt Ideal) (e := .bf16) (S := S320x1024) (ix2 ⟨d.val, by omega⟩ k) ![r, c] S32x128.size p v := by
  intro x hx
  have h0 : d.val = r + (x 0).val := hx 0
  omega

/-- The stores, read at a latent row. -/
theorem weightsL_apply (W : Vec Ideal S320x1024 .fp8e4m3) (S : Vec Ideal S3x8 .f32) (p0 p1 p2 p3 p4 p5 p6 p7 p8 p9 p10 p11 p12 p13 p14 p15 : Vec Ideal S32x128 .bf16)
    (d : Fin 256) (k : Fin 1024)
    (hc : ∀ y : S320x1024.Idx, ∃ pc ∈ weightsL W S p0 p1 p2 p3 p4 p5 p6 p7 p8 p9 p10 p11 p12 p13 p14 p15, y ∈ pc.1.set) :
    View.canon (weightsL W S p0 p1 p2 p3 p4 p5 p6 p7 p8 p9 p10 p11 p12 p13 p14 p15) (ix2 ⟨d.val, by omega⟩ k)
      = (W (ix2 ⟨d.val, by omega⟩ k) : EReal) * S (ix2 ⟨d.val / 128, by omega⟩ ⟨k.val / 128, by omega⟩) := by
  refine View.canon_eq_of_allAt _ _ _ (hc _) ?_
  unfold weightsL
  exact View.allAt_cons_unit _ _ _ _ _ (rope_tile d k 288 896 (by norm_num) inb_S320x1024_S32x128_288_896 _ _) (
    View.allAt_cons_unit _ _ _ _ _ (rope_tile d k 256 896 (by norm_num) inb_S320x1024_S32x128_256_896 _ _) (
    View.allAt_cons_unit _ _ _ _ _ (block_tile W S ⟨d.val, by omega⟩ k 128 896 1 7 rfl rfl inb_S320x1024_S128x128_128_896 inb_S3x8_S1x1_1_7) (
    View.allAt_cons_unit _ _ _ _ _ (block_tile W S ⟨d.val, by omega⟩ k 0 896 0 7 rfl rfl inb_S320x1024_S128x128_0_896 inb_S3x8_S1x1_0_7) (
    View.allAt_cons_unit _ _ _ _ _ (rope_tile d k 288 768 (by norm_num) inb_S320x1024_S32x128_288_768 _ _) (
    View.allAt_cons_unit _ _ _ _ _ (rope_tile d k 256 768 (by norm_num) inb_S320x1024_S32x128_256_768 _ _) (
    View.allAt_cons_unit _ _ _ _ _ (block_tile W S ⟨d.val, by omega⟩ k 128 768 1 6 rfl rfl inb_S320x1024_S128x128_128_768 inb_S3x8_S1x1_1_6) (
    View.allAt_cons_unit _ _ _ _ _ (block_tile W S ⟨d.val, by omega⟩ k 0 768 0 6 rfl rfl inb_S320x1024_S128x128_0_768 inb_S3x8_S1x1_0_6) (
    View.allAt_cons_unit _ _ _ _ _ (rope_tile d k 288 640 (by norm_num) inb_S320x1024_S32x128_288_640 _ _) (
    View.allAt_cons_unit _ _ _ _ _ (rope_tile d k 256 640 (by norm_num) inb_S320x1024_S32x128_256_640 _ _) (
    View.allAt_cons_unit _ _ _ _ _ (block_tile W S ⟨d.val, by omega⟩ k 128 640 1 5 rfl rfl inb_S320x1024_S128x128_128_640 inb_S3x8_S1x1_1_5) (
    View.allAt_cons_unit _ _ _ _ _ (block_tile W S ⟨d.val, by omega⟩ k 0 640 0 5 rfl rfl inb_S320x1024_S128x128_0_640 inb_S3x8_S1x1_0_5) (
    View.allAt_cons_unit _ _ _ _ _ (rope_tile d k 288 512 (by norm_num) inb_S320x1024_S32x128_288_512 _ _) (
    View.allAt_cons_unit _ _ _ _ _ (rope_tile d k 256 512 (by norm_num) inb_S320x1024_S32x128_256_512 _ _) (
    View.allAt_cons_unit _ _ _ _ _ (block_tile W S ⟨d.val, by omega⟩ k 128 512 1 4 rfl rfl inb_S320x1024_S128x128_128_512 inb_S3x8_S1x1_1_4) (
    View.allAt_cons_unit _ _ _ _ _ (block_tile W S ⟨d.val, by omega⟩ k 0 512 0 4 rfl rfl inb_S320x1024_S128x128_0_512 inb_S3x8_S1x1_0_4) (
    View.allAt_cons_unit _ _ _ _ _ (rope_tile d k 288 384 (by norm_num) inb_S320x1024_S32x128_288_384 _ _) (
    View.allAt_cons_unit _ _ _ _ _ (rope_tile d k 256 384 (by norm_num) inb_S320x1024_S32x128_256_384 _ _) (
    View.allAt_cons_unit _ _ _ _ _ (block_tile W S ⟨d.val, by omega⟩ k 128 384 1 3 rfl rfl inb_S320x1024_S128x128_128_384 inb_S3x8_S1x1_1_3) (
    View.allAt_cons_unit _ _ _ _ _ (block_tile W S ⟨d.val, by omega⟩ k 0 384 0 3 rfl rfl inb_S320x1024_S128x128_0_384 inb_S3x8_S1x1_0_3) (
    View.allAt_cons_unit _ _ _ _ _ (rope_tile d k 288 256 (by norm_num) inb_S320x1024_S32x128_288_256 _ _) (
    View.allAt_cons_unit _ _ _ _ _ (rope_tile d k 256 256 (by norm_num) inb_S320x1024_S32x128_256_256 _ _) (
    View.allAt_cons_unit _ _ _ _ _ (block_tile W S ⟨d.val, by omega⟩ k 128 256 1 2 rfl rfl inb_S320x1024_S128x128_128_256 inb_S3x8_S1x1_1_2) (
    View.allAt_cons_unit _ _ _ _ _ (block_tile W S ⟨d.val, by omega⟩ k 0 256 0 2 rfl rfl inb_S320x1024_S128x128_0_256 inb_S3x8_S1x1_0_2) (
    View.allAt_cons_unit _ _ _ _ _ (rope_tile d k 288 128 (by norm_num) inb_S320x1024_S32x128_288_128 _ _) (
    View.allAt_cons_unit _ _ _ _ _ (rope_tile d k 256 128 (by norm_num) inb_S320x1024_S32x128_256_128 _ _) (
    View.allAt_cons_unit _ _ _ _ _ (block_tile W S ⟨d.val, by omega⟩ k 128 128 1 1 rfl rfl inb_S320x1024_S128x128_128_128 inb_S3x8_S1x1_1_1) (
    View.allAt_cons_unit _ _ _ _ _ (block_tile W S ⟨d.val, by omega⟩ k 0 128 0 1 rfl rfl inb_S320x1024_S128x128_0_128 inb_S3x8_S1x1_0_1) (
    View.allAt_cons_unit _ _ _ _ _ (rope_tile d k 288 0 (by norm_num) inb_S320x1024_S32x128_288_0 _ _) (
    View.allAt_cons_unit _ _ _ _ _ (rope_tile d k 256 0 (by norm_num) inb_S320x1024_S32x128_256_0 _ _) (
    View.allAt_cons_unit _ _ _ _ _ (block_tile W S ⟨d.val, by omega⟩ k 128 0 1 0 rfl rfl inb_S320x1024_S128x128_128_0 inb_S3x8_S1x1_1_0) (
    View.allAt_cons_unit _ _ _ _ _ (block_tile W S ⟨d.val, by omega⟩ k 0 0 0 0 rfl rfl inb_S320x1024_S128x128_0_0 inb_S3x8_S1x1_0_0) (
    View.allAt_nil _ _))))))))))))))))))))))))))))))))

variable (m : (ℓ : Loc nD τ sig) → Buf (Elt Ideal) ℓ)

/-- The transposed weight codes the first point loads. -/
def blkW (hO : Ok m) (c : Dev nD) : FVec Ideal S320x1024 .fp8e4m3 := iblk m hO c 2 (pt0 m hO)

/-- The transposed weight scales the first point loads. -/
def blkS (hO : Ok m) (c : Dev nD) : FVec Ideal S3x8 .f32 := iblk m hO c 3 (pt0 m hO)

/-- The scratch of dequantised weights at a latent row. -/
theorem wScr_apply (hO : Ok m) (hH : Hyps m hO) (c : Dev nD) (d : Fin 256) (k : Fin 1024) :
    wScr m hO hH c (ix2 ⟨d.val, by omega⟩ k)
      = (blkW m hO c (ix2 ⟨d.val, by omega⟩ k) : EReal)
        * blkS m hO c (ix2 ⟨d.val / 128, by omega⟩ ⟨k.val / 128, by omega⟩) := by
  have hcov := scoverA m hO hH c (pt0 m hO) (Nat.zero_mod _)
  unfold wScr
  refine (congrFun (View.read_writes_eq_canon _ _ _ hcov) _).trans ?_
  obtain ⟨p0, p1, p2, p3, p4, p5, p6, p7, p8, p9, p10, p11, p12, p13, p14, p15, e⟩ := runA_w m hO hH c (pt0 m hO) (Nat.zero_mod _)
  rw [e] at hcov ⊢
  refine (weightsL_apply _ _ p0 p1 p2 p3 p4 p5 p6 p7 p8 p9 p10 p11 p12 p13 p14 p15 d k hcov).trans (Ideal.mul_congr ?_ ?_)
  · exact congrFun ((hs0_2 m hO (pt0 m hO)).read_unread _) _
  · exact congrFun ((hs0_3 m hO (pt0 m hO)).read_unread _) _

end Cert.KernelIdeal.Gen
-- ==== Proof.TileValue.lean ====
/- What a chunk of a tile computes at the ideal values, read at an index. -/
module

public import proofs.«01_k».proof.Proof.Tile
public import proofs.«01_k».proof.Proof.Spec

@[expose] public section

set_option maxRecDepth 16384

noncomputable section

namespace Cert.KernelIdeal.Gen

open Idealize.ShloMosaic Idealize.ShloMosaic.TcCoe Idealize.ShloMosaic.Tactic Cert.Latent

theorem stepE_apply (k : BitVec 32) (q : FVec Ideal S1x256 .f32) (n : IVec S1x256 32) (t : Fin 256) :
    stepE k q n (ix2 0 t) = stepS k (q (ix2 0 t)) (n (ix2 0 t)) := by
  pointwise [stepE]
  rfl

theorem expoE_apply (q : FVec Ideal S1x256 .f32) (t : Fin 256) :
    expoE q (ix2 0 t) = expoS (q (ix2 0 t)) := by
  unfold expoE
  simp only [stepE_apply]
  rfl

theorem scaleE_apply (n : IVec S1x256 32) (t : Fin 256) :
    scaleE (F := Ideal) n (ix2 0 t) = scaleS (n (ix2 0 t)) := by
  pointwise [scaleE]
  rfl

theorem invE_apply (n : IVec S1x256 32) (t : Fin 256) :
    invE (F := Ideal) n (ix2 0 t) = invS (n (ix2 0 t)) := by
  pointwise [invE]
  rfl

theorem amaxE_apply (y : FVec Ideal S128x256 .f32) (t : Fin 256) :
    amaxE y (ix2 0 t) = Finset.fold max (Ideal.ofBits .f32 0xFF800000#32)
      (fun l : Fin 128 => max (y (ix2 l t) : EReal) (-(y (ix2 l t) : EReal))) Finset.univ
        * Ideal.ofBits .f32 0x3B124925#32 := by
  pointwise [amaxE]
  rfl

theorem quantE_apply (y : FVec Ideal S128x256 .f32) (n : IVec S1x256 32) (d : Fin 128) (t : Fin 256) :
    quantE y n (ix2 d t) = min (Ideal.ofBits .f32 0x43E00000#32) (max (Ideal.ofBits .f32 0xC3E00000#32)
      ((y (ix2 d t) : EReal) * invS (n (ix2 0 t)))) := by
  pointwise [quantE]
  rw [invE_apply]

/-- The mean over 256 columns, by the product with its reciprocal or by the quotient. -/
theorem mean_eq (a : EReal) :
    a * Ideal.ofBits .f32 0x3B800000#32 = Ideal.div a (Ideal.ofBits .f32 0x43800000#32) := by
  have e1 : Ideal.ofBits .f32 0x3B800000#32 = ((1 / 256 : ℝ) : EReal) :=
    (pw_eq 119 (by norm_num) (by norm_num)).trans (by norm_num)
  have e2 : Ideal.ofBits .f32 0x43800000#32 = ((256 : ℝ) : EReal) :=
    (pw_eq 135 (by norm_num) (by norm_num)).trans (by norm_num)
  rw [e1, e2, Ideal.div_coe (by norm_num)]

theorem normE_apply (g : Vec Ideal S256x1 .f32) (kv : FVec Ideal S320x256 .f32) (d : Fin 256) (t : Fin 256) :
    normE g kv (ix2 d t) = normed (fun j => kv (ix2 ⟨j.val, by omega⟩ t)) (fun j => g (ix2 j 0)) d := by
  unfold normed
  rw [← mean_eq]
  pointwise [normE]

theorem kvE_apply (w : Vec Ideal S320x1024 .bf16) (x : FVec Ideal S256x1024 .bf16) (d : Fin 320) (t : Fin 256) :
    kvE w x (ix2 d t) = ∑ k : Fin 1024, (w (ix2 d k) : EReal) * x (ix2 t k) := by
  pointwise [kvE]

/-- The hidden states at an index, the eight column blocks read as one array. -/
theorem hiddenE_apply (X : Fin 1024 → Fin 256 → EReal) (h : Vec Ideal S1x8x256 .f32)
    (x0 x1 x2 x3 x4 x5 x6 x7 : Vec Ideal S1x256x128 .fp8e4m3)
    (h0 : ∀ (l : Fin 128) (t : Fin 256), x0 (ix3 0 t l) = X ⟨l.val, by omega⟩ t)
    (h1 : ∀ (l : Fin 128) (t : Fin 256), x1 (ix3 0 t l) = X ⟨128 + l.val, by omega⟩ t)
    (h2 : ∀ (l : Fin 128) (t : Fin 256), x2 (ix3 0 t l) = X ⟨256 + l.val, by omega⟩ t)
    (h3 : ∀ (l : Fin 128) (t : Fin 256), x3 (ix3 0 t l) = X ⟨384 + l.val, by omega⟩ t)
    (h4 : ∀ (l : Fin 128) (t : Fin 256), x4 (ix3 0 t l) = X ⟨512 + l.val, by omega⟩ t)
    (h5 : ∀ (l : Fin 128) (t : Fin 256), x5 (ix3 0 t l) = X ⟨640 + l.val, by omega⟩ t)
    (h6 : ∀ (l : Fin 128) (t : Fin 256), x6 (ix3 0 t l) = X ⟨768 + l.val, by omega⟩ t)
    (h7 : ∀ (l : Fin 128) (t : Fin 256), x7 (ix3 0 t l) = X ⟨896 + l.val, by omega⟩ t)
    (t : Fin 256) (k : Fin 1024) :
    hiddenE (hsE h) x0 x1 x2 x3 x4 x5 x6 x7 (ix2 t k) = X k t * h (ix3 0 ⟨k.val / 128, by omega⟩ t) := by
  have hk (n : Fin 8) (e : k.val / 128 = n.val) : (⟨k.val / 128, by omega⟩ : Fin 8) = n := Fin.ext e
  pointwise [hiddenE, hsE, blockE]
  have hc : k.val / 128 = 0 ∨ k.val / 128 = 1 ∨ k.val / 128 = 2 ∨ k.val / 128 = 3 ∨ k.val / 128 = 4 ∨
      k.val / 128 = 5 ∨ k.val / 128 = 6 ∨ k.val / 128 = 7 := by omega
  rcases hc with c | c | c | c | c | c | c | c
  · rw [dif_pos (by omega), hk 0 c, h0]
  · rw [dif_neg (by omega), dif_pos (by omega), hk 1 c, h1]
    exact Ideal.mul_congr (congrArg (fun a => X a t) (Fin.ext (by simp only; omega))) rfl
  · rw [dif_neg (by omega), dif_neg (by omega), dif_pos (by omega), hk 2 c, h2]
    exact Ideal.mul_congr (congrArg (fun a => X a t) (Fin.ext (by simp only; omega))) rfl
  · rw [dif_neg (by omega), dif_neg (by omega), dif_neg (by omega), dif_pos (by omega), hk 3 c, h3]
    exact Ideal.mul_congr (congrArg (fun a => X a t) (Fin.ext (by simp only; omega))) rfl
  · rw [dif_neg (by omega), dif_neg (by omega), dif_neg (by omega), dif_neg (by omega), dif_pos (by omega), hk 4 c, h4]
    exact Ideal.mul_congr (congrArg (fun a => X a t) (Fin.ext (by simp only; omega))) rfl
  · rw [dif_neg (by omega), dif_neg (by omega), dif_neg (by omega), dif_neg (by omega), dif_neg (by omega), dif_pos (by omega), hk 5 c, h5]
    exact Ideal.mul_congr (congrArg (fun a => X a t) (Fin.ext (by simp only; omega))) rfl
  · rw [dif_neg (by omega), dif_neg (by omega), dif_neg (by omega), dif_neg (by omega), dif_neg (by omega), dif_neg (by omega), dif_pos (by omega), hk 6 c, h6]
    exact Ideal.mul_congr (congrArg (fun a => X a t) (Fin.ext (by simp only; omega))) rfl
  · rw [dif_neg (by omega), dif_neg (by omega), dif_neg (by omega), dif_neg (by omega), dif_neg (by omega), dif_neg (by omega), dif_neg (by omega), hk 7 c, h7]
    exact Ideal.mul_congr (congrArg (fun a => X a t) (Fin.ext (by simp only; omega))) rfl

/-- The first group's peak. -/
theorem amaxE_lo (y : FVec Ideal S256x256 .f32) (t : Fin 256) :
    amaxE (loE y) (ix2 0 t) = peak (fun d => y (ix2 d t)) 0 := by
  rw [amaxE_apply]
  unfold peak
  congr 2
  funext l
  have e : loE y (ix2 l t) = y (ix2 ⟨(0 : Fin 2).val * 128 + l.val, by omega⟩ t) := by
    pointwise [loE]
    try (congr 2; exact Fin.ext (by simp))
  rw [e]

/-- The second group's peak. -/
theorem amaxE_hi (y : FVec Ideal S256x256 .f32) (t : Fin 256) :
    amaxE (hiE y) (ix2 0 t) = peak (fun d => y (ix2 d t)) 1 := by
  rw [amaxE_apply]
  unfold peak
  congr 2
  funext l
  have e : hiE y (ix2 l t) = y (ix2 ⟨(1 : Fin 2).val * 128 + l.val, by omega⟩ t) := by
    pointwise [hiE]
    try (congr 2; exact Fin.ext (by simp))
  rw [e]

/-- A chunk's scales at an index. -/
theorem scalesE_apply (y : FVec Ideal S256x256 .f32) (t : Fin 256) (r : Fin 2) :
    scalesE y (ix3 0 r t) = scaleS (expoS (peak (fun d => y (ix2 d t)) r)) := by
  fin_cases r
  · refine Eq.trans (b := scaleE (F := Ideal) (expoE (amaxE (loE y))) (ix2 0 t)) ?_ ?_
    · pointwise [scalesE]
      try rfl
    · rw [scaleE_apply, expoE_apply, amaxE_lo]; rfl
  · refine Eq.trans (b := scaleE (F := Ideal) (expoE (amaxE (hiE y))) (ix2 0 t)) ?_ ?_
    · pointwise [scalesE]
      try rfl
    · rw [scaleE_apply, expoE_apply, amaxE_hi]; rfl

/-- A chunk's codes at an index. -/
theorem codesE_apply (y : FVec Ideal S256x256 .f32) (t : Fin 256) (d : Fin 256) :
    codesE y (ix3 0 t d) = min (Ideal.ofBits .f32 0x43E00000#32) (max (Ideal.ofBits .f32 0xC3E00000#32)
      ((y (ix2 d t) : EReal) * invS (expoS (peak (fun d => y (ix2 d t)) ⟨d.val / 128, by omega⟩)))) := by
  by_cases hd : d.val < 128
  · refine Eq.trans (b := quantE (loE y) (expoE (amaxE (loE y))) (ix2 ⟨d.val, hd⟩ t)) ?_ ?_
    · pointwise [codesE, codesTE, k0_pay100]
      rw [dif_pos hd]
    · rw [quantE_apply, expoE_apply, amaxE_lo]
      have e : loE y (ix2 ⟨d.val, hd⟩ t) = y (ix2 d t) := by pointwise [loE]
      rw [e, show (⟨d.val / 128, by omega⟩ : Fin 2) = 0 from Fin.ext (show d.val / 128 = 0 by omega)]
  · refine Eq.trans (b := quantE (hiE y) (expoE (amaxE (hiE y))) (ix2 ⟨d.val - 128, by omega⟩ t)) ?_ ?_
    · pointwise [codesE, codesTE, k0_pay100]
      rw [dif_neg hd]
    · rw [quantE_apply, expoE_apply, amaxE_hi]
      have e : hiE y (ix2 ⟨d.val - 128, by omega⟩ t) = y (ix2 d t) := by
        pointwise [hiE]
        congr 2; exact Fin.ext (by simp only; omega)
      rw [e, show (⟨d.val / 128, by omega⟩ : Fin 2) = 1 from Fin.ext (show d.val / 128 = 1 by omega)]

end Cert.KernelIdeal.Gen
-- ==== Proof.TileRows.lean ====
/- The two tiles a point leaves, at the ideal values, read at an index. -/
module

public import proofs.«01_k».proof.Proof.PiecesA
public import proofs.«01_k».proof.Proof.TileValue
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Cert.Latent

variable (W : Vec Ideal S320x1024 .bf16) (G : Vec Ideal S256x1 .f32) (X : Vec Ideal S1x1024x1024 .fp8e4m3)
  (H : Vec Ideal S1x8x1024 .f32)

/-- One token's normalised latent row, from the weights, the gains and the tile's blocks. -/
def rowK (s : Fin 1024) : Fin 256 → EReal :=
  normed (fun d => ∑ k : Fin 1024, (W (ix2 ⟨d.val, by omega⟩ k) : EReal)
      * ((X (ix3 0 s k) : EReal) * H (ix3 0 ⟨k.val / 128, by omega⟩ s)))
    (fun d => G (ix2 d 0))

/-- Where a load of one chunk's columns reads the codes. -/
theorem ldX_idx (o n : ℕ) (inb : ∀ a : Fin 3, (![0, o, n] : Fin 3 → ℕ) a + S1x256x128.size a ≤ S1x1024x1024.size a)
    (ho : o + 256 ≤ 1024) (l : Fin 128) (t : Fin 256) :
    (Rect.unit (s := S1x1024x1024) ![0, o, n] S1x256x128.size inb).idx (ix3 0 t l : S1x256x128.Idx)
      = ix3 0 ⟨o + t.val, by omega⟩ ⟨n + l.val, by have := inb 2; have := l.isLt; simp at *; omega⟩ := by
  funext i
  apply Fin.ext
  fin_cases i
  · rfl
  · show o + 1 * t.val = o + t.val
    omega
  · show n + 1 * l.val = n + l.val
    omega

/-- Where a load of one chunk's scales reads the scales. -/
theorem ldH_idx (o : ℕ) (inb : ∀ a : Fin 3, (![0, 0, o] : Fin 3 → ℕ) a + S1x8x256.size a ≤ S1x8x1024.size a)
    (ho : o + 256 ≤ 1024) (j : Fin 8) (t : Fin 256) :
    (Rect.unit (s := S1x8x1024) ![0, 0, o] S1x8x256.size inb).idx (ix3 0 j t : S1x8x256.Idx)
      = ix3 0 j ⟨o + t.val, by omega⟩ := by
  funext i
  apply Fin.ext
  fin_cases i
  · rfl
  · show 0 + 1 * j.val = j.val
    omega
  · show o + 1 * t.val = o + t.val
    omega

/-- Where a load of all the weights reads them. -/
theorem ldW_idx (inb : ∀ a : Fin 2, (![0, 0] : Fin 2 → ℕ) a + S320x1024.size a ≤ S320x1024.size a)
    (d : Fin 320) (k : Fin 1024) :
    (Rect.unit (s := S320x1024) ![0, 0] S320x1024.size inb).idx (ix2 d k : S320x1024.Idx) = ix2 d k := by
  funext i
  apply Fin.ext
  fin_cases i
  · show 0 + 1 * d.val = d.val
    omega
  · show 0 + 1 * k.val = k.val
    omega

/-- Where a load of all the gains reads them. -/
theorem ldG_idx (inb : ∀ a : Fin 2, (![0, 0] : Fin 2 → ℕ) a + S256x1.size a ≤ S256x1.size a) (d : Fin 256) :
    (Rect.unit (s := S256x1) ![0, 0] S256x1.size inb).idx (ix2 d 0 : S256x1.Idx) = ix2 d 0 := by
  funext i
  apply Fin.ext
  fin_cases i
  · show 0 + 1 * d.val = d.val
    omega
  · rfl

/-- A chunk's normalised latent at an index. -/
theorem chunk_gen (o : ℕ) (ho : o + 256 ≤ 1024)
    (inw : ∀ a : Fin 2, (![0, 0] : Fin 2 → ℕ) a + S320x1024.size a ≤ S320x1024.size a)
    (ing : ∀ a : Fin 2, (![0, 0] : Fin 2 → ℕ) a + S256x1.size a ≤ S256x1.size a)
    (inh : ∀ a : Fin 3, (![0, 0, o] : Fin 3 → ℕ) a + S1x8x256.size a ≤ S1x8x1024.size a)
    (inx0 : ∀ a : Fin 3, (![0, o, 0] : Fin 3 → ℕ) a + S1x256x128.size a ≤ S1x1024x1024.size a)
    (inx1 : ∀ a : Fin 3, (![0, o, 128] : Fin 3 → ℕ) a + S1x256x128.size a ≤ S1x1024x1024.size a)
    (inx2 : ∀ a : Fin 3, (![0, o, 256] : Fin 3 → ℕ) a + S1x256x128.size a ≤ S1x1024x1024.size a)
    (inx3 : ∀ a : Fin 3, (![0, o, 384] : Fin 3 → ℕ) a + S1x256x128.size a ≤ S1x1024x1024.size a)
    (inx4 : ∀ a : Fin 3, (![0, o, 512] : Fin 3 → ℕ) a + S1x256x128.size a ≤ S1x1024x1024.size a)
    (inx5 : ∀ a : Fin 3, (![0, o, 640] : Fin 3 → ℕ) a + S1x256x128.size a ≤ S1x1024x1024.size a)
    (inx6 : ∀ a : Fin 3, (![0, o, 768] : Fin 3 → ℕ) a + S1x256x128.size a ≤ S1x1024x1024.size a)
    (inx7 : ∀ a : Fin 3, (![0, o, 896] : Fin 3 → ℕ) a + S1x256x128.size a ≤ S1x1024x1024.size a)
    (d t : Fin 256) (s : Fin 1024) (h : s.val = o + t.val) :
    chunkE (View.ld W (Rect.unit (s := S320x1024) ![0, 0] S320x1024.size inw))
      (View.ld G (Rect.unit (s := S256x1) ![0, 0] S256x1.size ing))
      (View.ld H (Rect.unit (s := S1x8x1024) ![0, 0, o] S1x8x256.size inh))
      (View.ld X (Rect.unit (s := S1x1024x1024) ![0, o, 0] S1x256x128.size inx0))
      (View.ld X (Rect.unit (s := S1x1024x1024) ![0, o, 128] S1x256x128.size inx1))
      (View.ld X (Rect.unit (s := S1x1024x1024) ![0, o, 256] S1x256x128.size inx2))
      (View.ld X (Rect.unit (s := S1x1024x1024) ![0, o, 384] S1x256x128.size inx3))
      (View.ld X (Rect.unit (s := S1x1024x1024) ![0, o, 512] S1x256x128.size inx4))
      (View.ld X (Rect.unit (s := S1x1024x1024) ![0, o, 640] S1x256x128.size inx5))
      (View.ld X (Rect.unit (s := S1x1024x1024) ![0, o, 768] S1x256x128.size inx6))
      (View.ld X (Rect.unit (s := S1x1024x1024) ![0, o, 896] S1x256x128.size inx7)) (ix2 d t)
      = rowK W G X H s d := by
  have ht : o + t.val < 1024 := by omega
  obtain rfl : s = ⟨o + t.val, ht⟩ := Fin.ext h
  unfold chunkE rowK
  rw [normE_apply]
  congr 1
  · funext j
    rw [kvE_apply]
    refine Finset.sum_congr rfl fun k _ => ?_
    rw [hiddenE_apply (fun k t => X (ix3 0 ⟨o + t.val, by omega⟩ k)) _ _ _ _ _ _ _ _ _
    (fun l t => congrArg X ((ldX_idx o 0 inx0 ho l t).trans (by congr 1; exact Fin.ext (Nat.zero_add _))))
    (fun l t => congrArg X (ldX_idx o 128 inx1 ho l t))
    (fun l t => congrArg X (ldX_idx o 256 inx2 ho l t))
    (fun l t => congrArg X (ldX_idx o 384 inx3 ho l t))
    (fun l t => congrArg X (ldX_idx o 512 inx4 ho l t))
    (fun l t => congrArg X (ldX_idx o 640 inx5 ho l t))
    (fun l t => congrArg X (ldX_idx o 768 inx6 ho l t))
    (fun l t => congrArg X (ldX_idx o 896 inx7 ho l t))]
    refine Ideal.mul_congr (congrArg W (ldW_idx inw _ _)) (Ideal.mul_congr rfl (congrArg H (ldH_idx o inh ho _ _)))
  · funext j
    exact congrArg G (ldG_idx ing j)

theorem chunk0_apply (d t : Fin 256) (s : Fin 1024) (h : s.val = 0 + t.val) :
    chunk0 W G X H (ix2 d t) = rowK W G X H s d :=
  chunk_gen W G X H 0 (by norm_num) _ _ _ _ _ _ _ _ _ _ _ d t s h

theorem chunk1_apply (d t : Fin 256) (s : Fin 1024) (h : s.val = 256 + t.val) :
    chunk1 W G X H (ix2 d t) = rowK W G X H s d :=
  chunk_gen W G X H 256 (by norm_num) _ _ _ _ _ _ _ _ _ _ _ d t s h

theorem chunk2_apply (d t : Fin 256) (s : Fin 1024) (h : s.val = 512 + t.val) :
    chunk2 W G X H (ix2 d t) = rowK W G X H s d :=
  chunk_gen W G X H 512 (by norm_num) _ _ _ _ _ _ _ _ _ _ _ d t s h

theorem chunk3_apply (d t : Fin 256) (s : Fin 1024) (h : s.val = 768 + t.val) :
    chunk3 W G X H (ix2 d t) = rowK W G X H s d :=
  chunk_gen W G X H 768 (by norm_num) _ _ _ _ _ _ _ _ _ _ _ d t s h

/-- A chunk's codes, where they hold an index. -/
theorem codes_tile (s : Fin 1024) (d : Fin 256) (o : ℕ) (ho : o + 256 ≤ 1024)
    (y : FVec Ideal S256x256 .f32)
    (hy : ∀ d t : Fin 256, ∀ h : s.val = o + t.val, y (ix2 d t) = rowK W G X H s d) :
    View.TileAt (Val := Elt Ideal) (e := .fp8e4m3) (S := S1x1024x256) (ix3 0 s d) ![0, o, 0] S1x256x256.size (codesE y)
      (min (Ideal.ofBits .f32 0x43E00000#32) (max (Ideal.ofBits .f32 0xC3E00000#32)
        (rowK W G X H s d * invS (expoS (peak (rowK W G X H s) ⟨d.val / 128, by omega⟩))))) := by
  intro x hx
  obtain ⟨a, t, e, rfl⟩ : ∃ (a : Fin 1) (t e : Fin 256), x = ix3 a t e := ⟨x 0, x 1, x 2, eq_ix3 x⟩
  have h1 : s.val = o + t.val := hx 1
  have h2 : d.val = 0 + e.val := hx 2
  obtain rfl : e = d := Fin.ext (by omega)
  obtain rfl : a = 0 := Subsingleton.elim _ _
  have hr : (fun d => y (ix2 d t)) = rowK W G X H s := funext fun d => hy d t h1
  refine (codesE_apply y t e).trans ?_
  rw [hr, hy e t h1]

/-- A chunk's scales, where they hold an index. -/
theorem scales_tile (s : Fin 1024) (r : Fin 2) (o : ℕ) (ho : o + 256 ≤ 1024)
    (y : FVec Ideal S256x256 .f32)
    (hy : ∀ d t : Fin 256, ∀ h : s.val = o + t.val, y (ix2 d t) = rowK W G X H s d) :
    View.TileAt (Val := Elt Ideal) (e := .f32) (S := S1x2x1024) (ix3 0 r s) ![0, 0, o] S1x2x256.size (scalesE y)
      (scaleS (expoS (peak (rowK W G X H s) r))) := by
  intro x hx
  obtain ⟨a, e, t, rfl⟩ : ∃ (a : Fin 1) (e : Fin 2) (t : Fin 256), x = ix3 a e t := ⟨x 0, x 1, x 2, eq_ix3 x⟩
  have h1 : s.val = o + t.val := hx 2
  have h2 : r.val = 0 + e.val := hx 1
  obtain rfl : e = r := Fin.ext (by omega)
  obtain rfl : a = 0 := Subsingleton.elim _ _
  have hr : (fun d => y (ix2 d t)) = rowK W G X H s := funext fun d => hy d t h1
  refine (scalesE_apply y t e).trans ?_
  rw [hr]

/-- The codes' tile at an index. -/
theorem codesL_apply (s : Fin 1024) (d : Fin 256) :
    View.canon (codesL W G X H) (ix3 0 s d)
      = min (Ideal.ofBits .f32 0x43E00000#32) (max (Ideal.ofBits .f32 0xC3E00000#32)
        (rowK W G X H s d * invS (expoS (peak (rowK W G X H s) ⟨d.val / 128, by omega⟩)))) := by
  refine View.canon_eq_of_allAt _ _ _ (View.cover_of_tiledL (codesL W G X H) S1x256x256.size (by sl_kernel_rfl) _) ?_
  unfold codesL
  exact View.allAt_cons_unit _ _ _ _ _ (codes_tile W G X H s d 768 (by norm_num) _ (fun d t h => chunk3_apply W G X H d t _ h)) (
    View.allAt_cons_unit _ _ _ _ _ (codes_tile W G X H s d 512 (by norm_num) _ (fun d t h => chunk2_apply W G X H d t _ h)) (
    View.allAt_cons_unit _ _ _ _ _ (codes_tile W G X H s d 256 (by norm_num) _ (fun d t h => chunk1_apply W G X H d t _ h)) (
    View.allAt_cons_unit _ _ _ _ _ (codes_tile W G X H s d 0 (by norm_num) _ (fun d t h => chunk0_apply W G X H d t _ h)) (
    View.allAt_nil _ _))))

/-- The scales' tile at an index. -/
theorem scalesL_apply (s : Fin 1024) (r : Fin 2) :
    View.canon (scalesL W G X H) (ix3 0 r s) = scaleS (expoS (peak (rowK W G X H s) r)) := by
  refine View.canon_eq_of_allAt _ _ _ (View.cover_of_tiledL (scalesL W G X H) S1x2x256.size (by sl_kernel_rfl) _) ?_
  unfold scalesL
  exact View.allAt_cons_unit _ _ _ _ _ (scales_tile W G X H s r 768 (by norm_num) _ (fun d t h => chunk3_apply W G X H d t _ h)) (
    View.allAt_cons_unit _ _ _ _ _ (scales_tile W G X H s r 512 (by norm_num) _ (fun d t h => chunk2_apply W G X H d t _ h)) (
    View.allAt_cons_unit _ _ _ _ _ (scales_tile W G X H s r 256 (by norm_num) _ (fun d t h => chunk1_apply W G X H d t _ h)) (
    View.allAt_cons_unit _ _ _ _ _ (scales_tile W G X H s r 0 (by norm_num) _ (fun d t h => chunk0_apply W G X H d t _ h)) (
    View.allAt_nil _ _))))

end Cert.KernelIdeal.Gen
-- ==== Proof.Range.lean ====
/- The size of a normalised latent row, and the equality of the two forms of the results. -/
module

public import proofs.«01_k».proof.Proof.Spec

@[expose] public section

set_option maxRecDepth 16384

noncomputable section

namespace Cert.Latent

open Idealize.ShloMosaic

/-- A finite sum of real numbers, taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A square is not negative. -/
theorem sq_nonneg' (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- The constants of the mean. -/
theorem c256_eq : Ideal.ofBits .f32 0x43800000#32 = ((256 : ℝ) : EReal) :=
  (pw_eq 135 (by norm_num) (by norm_num)).trans (by norm_num)

theorem word_real (b : BitVec 32) (n f : ℕ) (h1 : (b.extractLsb' 23 8).toNat = n)
    (h2 : (b.extractLsb' 31 1 == 1#1) = false) (h3 : (b.extractLsb' 0 23).toNat = f) (h4 : n ≠ 0) (h5 : n ≠ 255) :
    Ideal.ofBits .f32 b = ((((2 ^ 23 + f : ℕ) : ℝ) * (2 : ℝ) ^ ((n : ℤ) - 150) : ℝ) : EReal) := by
  unfold Ideal.ofBits Ideal.ieee
  simp only [h1, h2, h3]
  rw [if_neg (by omega), if_neg h4]
  refine congrArg ((↑) : ℝ → EReal) ?_
  have e : (n : ℤ) - (2 ^ (8 - 1) - 1) - (23 : ℕ) = (n : ℤ) - 150 := by norm_num; ring
  rw [e]
  simp

/-- The addend under the root is a positive number. -/
theorem eps_pos : ∃ e : ℝ, 0 < e ∧ Ideal.ofBits .f32 0x358637BD#32 = (e : EReal) :=
  ⟨_, by positivity, word_real 0x358637BD#32 107 407485 (by decide) (by decide) (by decide) (by decide) (by decide)⟩

/-- The reciprocal of 448, as stored, is at most `2^-8`. -/
theorem c448_le : ∃ e : ℝ, 0 ≤ e ∧ e ≤ (2 : ℝ) ^ (-8 : ℤ) ∧ Ideal.ofBits .f32 0x3B124925#32 = (e : EReal) :=
  ⟨_, by positivity, by norm_num, word_real 0x3B124925#32 118 1198373 (by decide) (by decide) (by decide) (by decide) (by decide)⟩

/-- The greatest finite single is below `2^128`. -/
theorem max_le : Ideal.ofBits .f32 0x7F7FFFFF#32 ≤ (((2 : ℝ) ^ (128 : ℤ) : ℝ) : EReal) := by
  rw [word_real 0x7F7FFFFF#32 254 8388607 (by decide) (by decide) (by decide) (by decide) (by decide)]
  exact EReal.coe_le_coe_iff.mpr (by norm_num)

/-- A column over the row's root mean square is at most 16. -/
theorem unit_le (c : Fin 256 → EReal) (d : Fin 256) :
    ∃ u : ℝ, |u| ≤ 16 ∧ c d * Ideal.rsqrt (Ideal.div (∑ j, c j * c j) (Ideal.ofBits .f32 0x43800000#32)
      + Ideal.ofBits .f32 0x358637BD#32) = (u : EReal) := by
  obtain ⟨e, he, hee⟩ := eps_pos
  rw [hee, c256_eq, Ideal.div_coe (by norm_num)]
  by_cases hfin : ∀ j, ∃ x : ℝ, c j = (x : EReal)
  · choose x hx using hfin
    have hs : ∑ j, c j * c j = ((∑ j, x j * x j : ℝ) : EReal) := by
      rw [← coe_sum]
      exact Finset.sum_congr rfl fun j _ => by rw [hx j, EReal.coe_mul]
    rw [hs, ← EReal.coe_mul, ← EReal.coe_add, hx d]
    have hge : x d * x d ≤ ∑ j, x j * x j :=
      Finset.single_le_sum (f := fun j => x j * x j) (fun j _ => mul_self_nonneg (x j)) (Finset.mem_univ d)
    set S := ∑ j, x j * x j with hS
    have hSn : 0 ≤ S := (mul_self_nonneg _).trans hge
    have hp : 0 < S * (1 / 256) + e := by positivity
    have hr : Ideal.rsqrt ((S * (1 / 256) + e : ℝ) : EReal) = (((Real.sqrt (S * (1 / 256) + e))⁻¹ : ℝ) : EReal) := by
      show (if S * (1 / 256) + e < 0 then (⊥ : EReal) else if S * (1 / 256) + e = 0 then ⊤ else _) = _
      rw [if_neg (by linarith), if_neg hp.ne']
    rw [hr, ← EReal.coe_mul]
    refine ⟨_, ?_, rfl⟩
    have hq : 0 < Real.sqrt (S * (1 / 256) + e) := Real.sqrt_pos.mpr hp
    rw [abs_mul, abs_inv, abs_of_pos hq, ← div_eq_mul_inv, div_le_iff₀ hq]
    have h16 : (16 : ℝ) * Real.sqrt (S * (1 / 256) + e) = Real.sqrt (256 * (S * (1 / 256) + e)) := by
      rw [Real.sqrt_mul (by norm_num), show (256 : ℝ) = 16 ^ 2 by norm_num, Real.sqrt_sq (by norm_num)]
    rw [h16]
    apply Real.abs_le_sqrt
    rw [sq]
    linarith
  · push Not at hfin
    obtain ⟨j, hj⟩ := hfin
    have hjj : c j * c j = ⊤ := by
      generalize c j = y at hj
      induction y with
      | bot => exact EReal.bot_mul_bot
      | top => exact EReal.top_mul_top
      | coe r => exact absurd rfl (hj r)
    have hs : ∑ j, c j * c j = ⊤ := by
      refine top_le_iff.mp ?_
      rw [← hjj]
      exact Finset.single_le_sum (f := fun j => c j * c j) (fun i _ => sq_nonneg' (c i)) (Finset.mem_univ j)
    rw [hs, EReal.top_mul_coe_of_pos (by norm_num), EReal.top_add_coe]
    refine ⟨0, by norm_num, ?_⟩
    show c d * 0 = _
    simp

/-- A column of the row is real and at most `2^132`. -/
theorem normed_le (c g : Fin 256 → EReal) (hg : ∀ d, max (g d) (-(g d)) ≤ Ideal.ofBits .f32 0x7F7FFFFF#32)
    (d : Fin 256) : ∃ y : ℝ, normed c g d = (y : EReal) ∧ |y| ≤ (2 : ℝ) ^ (132 : ℤ) := by
  obtain ⟨u, hu, hue⟩ := unit_le c d
  have hgd := (hg d).trans max_le
  unfold normed
  rw [hue]
  generalize g d = x at hgd
  have h1 := (le_max_left _ _).trans hgd
  have h2 := (le_max_right _ _).trans hgd
  induction x with
  | bot => rw [EReal.neg_bot, top_le_iff] at h2; exact absurd h2 (EReal.coe_ne_top _)
  | top => rw [top_le_iff] at h1; exact absurd h1 (EReal.coe_ne_top _)
  | coe r =>
    refine ⟨u * r, (EReal.coe_mul u r).symm, ?_⟩
    have a1 : r ≤ (2 : ℝ) ^ (128 : ℤ) := EReal.coe_le_coe_iff.mp h1
    have a2 : -r ≤ (2 : ℝ) ^ (128 : ℤ) := by
      rw [← EReal.coe_neg] at h2
      exact EReal.coe_le_coe_iff.mp h2
    have a3 : |r| ≤ (2 : ℝ) ^ (128 : ℤ) := abs_le.mpr ⟨by linarith, a1⟩
    rw [abs_mul]
    calc |u| * |r| ≤ 16 * (2 : ℝ) ^ (128 : ℤ) := mul_le_mul hu a3 (abs_nonneg _) (by norm_num)
      _ = (2 : ℝ) ^ (132 : ℤ) := by norm_num

/-- A peak is real, not negative, and below `2^126`. -/
theorem peak_range (c g : Fin 256 → EReal) (hg : ∀ d, max (g d) (-(g d)) ≤ Ideal.ofBits .f32 0x7F7FFFFF#32)
    (r : Fin 2) : ∃ q : ℝ, peak (normed c g) r = (q : EReal) ∧ 0 ≤ q ∧ q < (2 : ℝ) ^ (126 : ℤ) := by
  obtain ⟨e, he0, he1, hee⟩ := c448_le
  have habs (d : Fin 256) : 0 ≤ max (normed c g d) (-(normed c g d))
      ∧ max (normed c g d) (-(normed c g d)) ≤ (((2 : ℝ) ^ (132 : ℤ) : ℝ) : EReal) := by
    obtain ⟨y, hy, hb⟩ := normed_le c g hg d
    rw [hy, ← EReal.coe_neg]
    constructor
    · rcases le_total 0 y with h | h
      · exact le_max_of_le_left (EReal.coe_nonneg.mpr h)
      · exact le_max_of_le_right (EReal.coe_nonneg.mpr (by linarith))
    · exact max_le_iff.mpr ⟨EReal.coe_le_coe_iff.mpr ((le_abs_self y).trans hb),
        EReal.coe_le_coe_iff.mpr ((neg_le_abs y).trans hb)⟩
  have hbot : Ideal.ofBits .f32 0xFF800000#32 = ⊥ := by
    simp [Ideal.ofBits, Ideal.ieee]
  unfold peak
  rw [hbot, hee]
  set M := Finset.fold max (⊥ : EReal) (fun l : Fin 128 =>
    max (normed c g ⟨r.val * 128 + l.val, by omega⟩) (-normed c g ⟨r.val * 128 + l.val, by omega⟩)) Finset.univ with hM
  have h0 : 0 ≤ M := (Finset.le_fold_max _).mpr (.inr ⟨0, Finset.mem_univ _, (habs _).1⟩)
  have h1 : M ≤ (((2 : ℝ) ^ (132 : ℤ) : ℝ) : EReal) := (Finset.fold_max_le _).mpr ⟨bot_le, fun l _ => (habs _).2⟩
  clear_value M
  induction M with
  | bot => exact absurd h0 (by simp)
  | top => rw [top_le_iff] at h1; exact absurd h1 (EReal.coe_ne_top _)
  | coe t =>
    have b0 : 0 ≤ t := EReal.coe_nonneg.mp h0
    have b1 : t ≤ (2 : ℝ) ^ (132 : ℤ) := EReal.coe_le_coe_iff.mp h1
    refine ⟨t * e, (EReal.coe_mul t e).symm, mul_nonneg b0 he0, ?_⟩
    calc t * e ≤ (2 : ℝ) ^ (132 : ℤ) * (2 : ℝ) ^ (-8 : ℤ) := mul_le_mul b1 he1 he0 (by positivity)
      _ < (2 : ℝ) ^ (126 : ℤ) := by norm_num

/-- The kernel's scale is the reference's. -/
theorem scale_eq (c g : Fin 256 → EReal) (hg : ∀ d, max (g d) (-(g d)) ≤ Ideal.ofBits .f32 0x7F7FFFFF#32)
    (r : Fin 2) : scaleS (expoS (peak (normed c g) r)) = scaleOf (peak (normed c g) r) := by
  obtain ⟨q, e, h0, h1⟩ := peak_range c g hg r
  rw [e]
  exact (pow_eq q h0 h1).1

/-- The kernel's code is the reference's. -/
theorem code_eq (c g : Fin 256 → EReal) (hg : ∀ d, max (g d) (-(g d)) ≤ Ideal.ofBits .f32 0x7F7FFFFF#32)
    (r : Fin 2) (y : EReal) :
    min (Ideal.ofBits .f32 0x43E00000#32) (max (Ideal.ofBits .f32 0xC3E00000#32)
      (y * invS (expoS (peak (normed c g) r)))) = codeOf y (peak (normed c g) r) := by
  obtain ⟨q, e, h0, h1⟩ := peak_range c g hg r
  rw [e, (pow_eq q h0 h1).2]
  rfl

/-- The two orders of the products of a latent column. -/
theorem lat_eq (x : Fin 1024 → EReal) (h : Fin 8 → EReal) (w : Fin 1024 → Fin 256 → EReal)
    (s : Fin 8 → Fin 2 → EReal) (d : Fin 256) :
    ∑ k : Fin 1024, (w k d * s ⟨k.val / 128, by omega⟩ ⟨d.val / 128, by omega⟩) * (x k * h ⟨k.val / 128, by omega⟩)
      = lat x h w s d :=
  Finset.sum_congr rfl fun _ _ => mul_comm _ _

end Cert.Latent
-- ==== Proof.RefValue.lean ====
/- The reference's two results, read at an index. -/
module

public import proofs.«01_k».proof.Proof.Gen.ReferenceIdeal.Value
public import proofs.«01_k».proof.Proof.Spec

@[expose] public section

set_option maxRecDepth 16384

noncomputable section

namespace Cert.ReferenceIdeal.Gen

open Idealize.ShloMosaic Idealize.ShloMosaic.TcCoe Idealize.ShloMosaic.Tactic Cert.Latent

variable (x : FVec Ideal S10x16384x1024 .fp8e4m3) (h : FVec Ideal S10x16384x8 .f32)
  (w : FVec Ideal S1024x320 .fp8e4m3) (s : FVec Ideal S8x3 .f32) (g : FVec Ideal S256 .f32)

/-- One token's normalised latent row, from the arguments. -/
def rowR (b : Fin 10) (t : Fin 16384) : Fin 256 → EReal :=
  normed (lat (fun k => x (ix3 b t k)) (fun j => h (ix3 b t j)) (fun k d => w (ix2 k ⟨d.val, by omega⟩))
    (fun j r => s (ix2 j ⟨r.val, by omega⟩))) (fun d => g (ix1 d))

/-- The normalised latent of the reference. -/
theorem pay4_apply (b : Fin 10) (t : Fin 16384) (r : Fin 2) (l : Fin 128) :
    k0_pay4 (F := Ideal) x h s w g (ix4 b t r l)
      = rowR x h w s g b t ⟨r.val * 128 + l.val, by omega⟩ := by
  pointwise [k0_pay4]
  rfl

/-- The greatest entry of a group. -/
def maxR (y : FVec Ideal S10x16384x2x128 .f32) : FVec Ideal S10x16384x2 .f32 :=
  multiReduction .maximumf [3] S10x16384x2 y 0xFF800000#32
    reduces_S10x16384x2x128_S10x16384x2 (.inl rfl) rfl

/-- A peak, from the greatest magnitude. -/
def scaled (m : FVec Ideal S10x16384x2 .f32) : FVec Ideal S10x16384x2 .f32 :=
  mulf m (broadcast S10x16384x2 (Scalar.ofBits .f32 0x3B124925#32))

theorem pay5_eq : k0_pay5 (F := Ideal) x h s w g = scaled (maxR (absf (k0_pay4 (F := Ideal) x h s w g))) := rfl

/-- The index a reduction over the last axis reads. -/
theorem lift_last (b : Fin 10) (t : Fin 16384) (r : Fin 2) (l : Fin 128) :
    (reduces_S10x16384x2x128_S10x16384x2 : S10x16384x2x128.Reduces [3] S10x16384x2).lift (ix3 b t r) l
      = ix4 b t r l := by
  funext c
  fin_cases c <;> rfl

theorem maxR_lift (y : FVec Ideal S10x16384x2x128 .f32) (b : Fin 10) (t : Fin 16384) (r : Fin 2) :
    maxR y (ix3 b t r) = (Finset.univ : Finset (Fin 128)).fold max (FloatOps.ofBits .f32 0xFF800000#32)
      (y ∘ (reduces_S10x16384x2x128_S10x16384x2 : S10x16384x2x128.Reduces [3] S10x16384x2).lift (ix3 b t r)) := by
  unfold maxR
  exact Ideal.multiReduction_maximumf_single y 0xFF800000#32
    reduces_S10x16384x2x128_S10x16384x2 (.inl rfl) rfl (ix3 b t r)

/-- The greatest entry of a group at an index. -/
theorem maxR_apply (y : FVec Ideal S10x16384x2x128 .f32) (b : Fin 10) (t : Fin 16384) (r : Fin 2) :
    maxR y (ix3 b t r) = Finset.fold max (Ideal.ofBits .f32 0xFF800000#32)
      (fun l : Fin 128 => y (ix4 b t r l)) Finset.univ := by
  rw [maxR_lift]
  have e : (y ∘ (reduces_S10x16384x2x128_S10x16384x2 : S10x16384x2x128.Reduces [3] S10x16384x2).lift (ix3 b t r))
      = fun l : Fin 128 => y (ix4 b t r l) := funext fun l => congrArg y (lift_last b t r l)
  rw [e]
  rfl

theorem scaled_apply (m : FVec Ideal S10x16384x2 .f32) (i : S10x16384x2.Idx) :
    scaled m i = (m i : EReal) * Ideal.ofBits .f32 0x3B124925#32 := rfl

theorem absf_at (y : FVec Ideal S10x16384x2x128 .f32) (i : S10x16384x2x128.Idx) :
    absf y i = max (y i : EReal) (-(y i : EReal)) := rfl

/-- The peak of the reference. -/
theorem pay5_apply (b : Fin 10) (t : Fin 16384) (r : Fin 2) :
    k0_pay5 (F := Ideal) x h s w g (ix3 b t r) = peak (rowR x h w s g b t) r := by
  rw [pay5_eq, scaled_apply, maxR_apply]
  simp only [absf_at, pay4_apply]
  rfl

/-- The scales, from the peaks. -/
theorem pay3_apply (q : FVec Ideal S10x16384x2 .f32) (b : Fin 10) (r : Fin 2) (t : Fin 16384) :
    k0_pay3 (F := Ideal) q (Scalar.ofBits .f32 0x00800000#32) (ix3 b r t) = scaleOf (q (ix3 b t r)) := by
  pointwise [k0_pay3, k0_pay1]
  rfl

/-- The codes, from the normalised latent and the peaks. -/
theorem pay2_apply (y : FVec Ideal S10x16384x2x128 .f32) (q : FVec Ideal S10x16384x2 .f32)
    (b : Fin 10) (t : Fin 16384) (d : Fin 256) :
    k0_pay2 (F := Ideal) y q (Scalar.ofBits .f32 0x00800000#32) (ix3 b t d)
      = codeOf (y (ix4 b t ⟨d.val / 128, by omega⟩ ⟨d.val % 128, by omega⟩))
          (q (ix3 b t ⟨d.val / 128, by omega⟩)) := by
  pointwise [k0_pay2, k0_pay1]
  rfl

end Cert.ReferenceIdeal.Gen

namespace Cert.ReferenceIdeal.Value

open Cert.ReferenceIdeal.Gen Idealize.ShloMosaic Idealize.ShloMosaic.TcCoe Idealize.ShloMosaic.Tactic Cert.Latent

variable (x : FVec Ideal S10x16384x1024 .fp8e4m3) (h : FVec Ideal S10x16384x8 .f32)
  (w : FVec Ideal S1024x320 .fp8e4m3) (s : FVec Ideal S8x3 .f32) (g : FVec Ideal S256 .f32)

/-- The peaks over the whole arguments. -/
theorem pay6_eq {F : FTy → Type} [FloatOps F] (a0 : Vec F S10x16384x1024 .fp8e4m3) (a1 : Vec F S10x16384x8 .f32)
    (a2 : Vec F S1024x320 .fp8e4m3) (a3 : Vec F S8x3 .f32) (a4 : Vec F S256 .f32) :
    k0_pay6 a0 a1 a2 a3 a4 = k0_pay5 a0 a1 a3 a2 a4 := by
  unfold k0_pay6
  rw [View.ld_unit_zero (S := S10x16384x1024) hz0 _ a0, View.ld_unit_zero (S := S10x16384x8) hz1 _ a1,
    View.ld_unit_zero (S := S8x3) hz3 _ a3, View.ld_unit_zero (S := S1024x320) hz2 _ a2,
    View.ld_unit_zero (S := S256) hz4 _ a4]

/-- The reference's codes at an index. -/
theorem G5_apply (b : Fin 10) (t : Fin 16384) (d : Fin 256) :
    G5 (F := Ideal) x h w s g (ix3 b t d)
      = codeOf (rowR x h w s g b t d) (peak (rowR x h w s g b t) ⟨d.val / 128, by omega⟩) := by
  unfold G5
  refine (congrArg (fun q => k0_pay2 (k0_pay4 (F := Ideal) x h s w g) q (Scalar.ofBits .f32 0x00800000#32) (ix3 b t d)) (pay6_eq (F := Ideal) x h w s g)).trans ?_
  rw [pay2_apply, pay4_apply, pay5_apply]
  congr 2
  exact Fin.ext (Nat.div_add_mod' d.val 128)

/-- The reference's scales at an index. -/
theorem G6_apply (b : Fin 10) (r : Fin 2) (t : Fin 16384) :
    G6 (F := Ideal) x h w s g (ix3 b r t) = scaleOf (peak (rowR x h w s g b t) r) := by
  unfold G6
  refine (congrArg (fun q => k0_pay3 (F := Ideal) q (Scalar.ofBits .f32 0x00800000#32) (ix3 b r t)) (pay6_eq (F := Ideal) x h w s g)).trans ?_
  rw [pay3_apply, pay5_apply]

end Cert.ReferenceIdeal.Value
-- ==== Proof.KernelValue.lean ====
/- What the ideal kernel's two result arrays hold after the run: the reference's codes and scales of the launched
arguments. -/
module

public import proofs.«01_k».proof.Proof.Blocks
public import proofs.«01_k».proof.Proof.Weights
public import proofs.«01_k».proof.Proof.TileRows
public import proofs.«01_k».proof.Proof.Range
public import proofs.«01_k».proof.Proof.RefValue
public import proofs.«01_k».proof.Proof.KernelIdealHyps

@[expose] public section

set_option maxRecDepth 16384

noncomputable section

namespace Cert.KernelIdeal.Gen

open Idealize.ShloMosaic Idealize.ShloMosaic.TcCoe Idealize.ShloMosaic.Tactic Cert.Latent
open Idealize.SL Idealize.SL.Sem

variable (m : (ℓ : Loc nD τ sig) → Buf (Elt Ideal) ℓ) (ρ : Dev nD → PrngReg)

/-- The launched hidden codes. -/
abbrev A0 (c : Dev nD) : FVec Ideal S10x16384x1024 .fp8e4m3 := m ((c : Thread nD τ).loc main_arg0)
/-- The launched hidden scales. -/
abbrev A1 (c : Dev nD) : FVec Ideal S10x16384x8 .f32 := m ((c : Thread nD τ).loc main_arg1)
/-- The launched weight codes. -/
abbrev A2 (c : Dev nD) : FVec Ideal S1024x320 .fp8e4m3 := m ((c : Thread nD τ).loc main_arg2)
/-- The launched weight scales. -/
abbrev A3 (c : Dev nD) : FVec Ideal S8x3 .f32 := m ((c : Thread nD τ).loc main_arg3)
/-- The launched gains. -/
abbrev A4 (c : Dev nD) : FVec Ideal S256 .f32 := m ((c : Thread nD τ).loc main_arg4)

/-- The gains' magnitudes are at most the largest finite value. -/
def Bounded : Prop := ∀ (c : Dev nD) (d : Fin 256),
  max (A4 m c (ix1 d)) (-(A4 m c (ix1 d))) ≤ Ideal.ofBits .f32 0x7F7FFFFF#32

/-- The codes the reference computes. -/
def codesR (c : Dev nD) : FVec Ideal S10x16384x256 .fp8e4m3 :=
  Cert.ReferenceIdeal.Value.G5 (F := Ideal) (A0 m c) (A1 m c) (A2 m c) (A3 m c) (A4 m c)

/-- The scales the reference computes. -/
def scalesR (c : Dev nD) : FVec Ideal S10x2x16384 .f32 :=
  Cert.ReferenceIdeal.Value.G6 (F := Ideal) (A0 m c) (A1 m c) (A2 m c) (A3 m c) (A4 m c)

variable (hO : Ok m) (hH : Hyps m hO)

/-- A token's normalised latent row in the kernel's tile, before its columns are compared with the reference's. -/
def rowT (c : Dev nD) (t : Fin (cfgM m hO).N) (s : Fin 1024) : Fin 256 → EReal :=
  rowK (wScr m hO hH c) (iblk m hO c 4 t) (iblk m hO c 0 t) (iblk m hO c 1 t) s

/-- The row is the reference's row of the same token. -/
theorem rowT_eq (c : Dev nD) (t : Fin (cfgM m hO).N) (s : Fin 1024) :
    rowT m hO hH c t s
      = Cert.ReferenceIdeal.Gen.rowR (A0 m c) (A1 m c) (A2 m c) (A3 m c) (A4 m c) (batch m hO t) (token m hO t s) := by
  unfold rowT rowK Cert.ReferenceIdeal.Gen.rowR
  refine congrArg₂ normed (funext fun d => ?_) (funext fun d => blk4_apply m hO c t d)
  refine Eq.trans (Finset.sum_congr rfl fun k _ => ?_) (lat_eq _ _ _ _ d)
  refine congrArg₂ (fun a b : EReal => a * b) ?_ (congrArg₂ (fun a b : EReal => a * b) (blk0_apply m hO c t s k) (blk1_apply m hO c t _ s))
  exact (wScr_apply m hO hH c d k).trans
    (congrArg₂ (fun a b : EReal => a * b) (blk2_apply m hO c (pt0 m hO) _ k) (blk3_apply m hO c (pt0 m hO) _ _))

/-- The codes of a tile are the reference's. -/
theorem codes_point (hB : Bounded m) (c : Dev nD) (t : Fin (cfgM m hO).N) (s : Fin 1024) (d : Fin 256) :
    (codesAt m hO hH c t : Vec Ideal S1x1024x256 .fp8e4m3) (ix3 0 s d)
      = codesR m c (ix3 (batch m hO t) (token m hO t s) d) := by
  refine ((congrFun (codesAt_eq m hO hH c t) _).trans (codesL_apply _ _ _ _ s d)).trans ?_
  refine Eq.trans ?_ (Cert.ReferenceIdeal.Value.G5_apply _ _ _ _ _ _ _ d).symm
  rw [show rowK (wScr m hO hH c) (iblk m hO c 4 t) (iblk m hO c 0 t) (iblk m hO c 1 t) s = _ from rowT_eq m hO hH c t s]
  exact code_eq _ _ (hB c) _ _

/-- The scales of a tile are the reference's. -/
theorem scales_point (hB : Bounded m) (c : Dev nD) (t : Fin (cfgM m hO).N) (r : Fin 2) (s : Fin 1024) :
    (scalesAt m hO hH c t : Vec Ideal S1x2x1024 .f32) (ix3 0 r s)
      = scalesR m c (ix3 (batch m hO t) r (token m hO t s)) := by
  refine ((congrFun (scalesAt_eq m hO hH c t) _).trans (scalesL_apply _ _ _ _ s r)).trans ?_
  refine Eq.trans ?_ (Cert.ReferenceIdeal.Value.G6_apply _ _ _ _ _ _ r _).symm
  rw [show rowK (wScr m hO hH c) (iblk m hO c 4 t) (iblk m hO c 0 t) (iblk m hO c 1 t) s = _ from rowT_eq m hO hH c t s]
  exact scale_eq _ _ (hB c) _

/-- A tile whose entries are those of an array's block is that block. -/
theorem cut7 (t : Fin (cfgM m hO).N) (X : Vec Ideal S1x1024x256 .fp8e4m3) (R : Vec Ideal S10x16384x256 .fp8e4m3)
    (h : ∀ s d, X (ix3 0 s d) = R (ix3 (batch m hO t) (token m hO t s) d)) :
    ((cfgM m hO).win 7).cut (grid0.coords t) X = (((cfgM m hO).win 7).blk t).view.read (Elt Ideal) R := by
  have e : ∀ y : S1x1024x256.Idx, X y = R ((((cfgM m hO).win 7).blk t).view.emb y) := fun y => by
    obtain ⟨z, s, d, rfl⟩ : ∃ (z : Fin 1) (s : Fin 1024) (d : Fin 256), y = ix3 z s d := ⟨y 0, y 1, y 2, eq_ix3 y⟩
    obtain rfl : z = 0 := Subsingleton.elim _ _
    exact (h s d).trans (congrArg R (emb7 m hO t s d)).symm
  exact funext e

/-- A tile whose entries are those of an array's block is that block. -/
theorem cut8 (t : Fin (cfgM m hO).N) (X : Vec Ideal S1x2x1024 .f32) (R : Vec Ideal S10x2x16384 .f32)
    (h : ∀ r s, X (ix3 0 r s) = R (ix3 (batch m hO t) r (token m hO t s))) :
    ((cfgM m hO).win 8).cut (grid0.coords t) X = (((cfgM m hO).win 8).blk t).view.read (Elt Ideal) R := by
  have e : ∀ y : S1x2x1024.Idx, X y = R ((((cfgM m hO).win 8).blk t).view.emb y) := fun y => by
    obtain ⟨z, r, s, rfl⟩ : ∃ (z : Fin 1) (r : Fin 2) (s : Fin 1024), y = ix3 z r s := ⟨y 0, y 1, y 2, eq_ix3 y⟩
    obtain rfl : z = 0 := Subsingleton.elim _ _
    exact (h r s).trans (congrArg R (emb8 m hO t r s)).symm
  exact funext e

/-- What a point writes of the codes is its block of the reference's. -/
theorem flushed7 (hB : Bounded m) (c : Dev nD) (t : Fin (cfgM m hO).N) :
    (dats m hO hH 0 c).flushed 7 t = (((cfgM m hO).win 7).blk t).view.read (Elt Ideal) (codesR m c) := by
  show ((cfgM m hO).win 7).cut (grid0.coords t) ((dats m hO hH 0 c).after 7 t) = _
  rw [after0_7]
  exact cut7 m hO t _ _ (codes_point m hO hH hB c t)

/-- What a point writes of the scales is its block of the reference's. -/
theorem flushed8 (hB : Bounded m) (c : Dev nD) (t : Fin (cfgM m hO).N) :
    (dats m hO hH 0 c).flushed 8 t = (((cfgM m hO).win 8).blk t).view.read (Elt Ideal) (scalesR m c) := by
  show ((cfgM m hO).win 8).cut (grid0.coords t) ((dats m hO hH 0 c).after 8 t) = _
  rw [after0_8]
  exact cut8 m hO t _ _ (scales_point m hO hH hB c t)

/-- The codes' array after the run. -/
theorem final7 (hB : Bounded m) (c : Dev nD) : (dats m hO hH 0 c).arrAt 7 (cfgM m hO).N = codesR m c :=
  (dats m hO hH 0 c).arrAt_eq_of_cover 7 (codesR m c) (fun t _ => flushed7 m hO hH hB c t) (covered7 m hO)

/-- The scales' array after the run. -/
theorem final8 (hB : Bounded m) (c : Dev nD) : (dats m hO hH 0 c).arrAt 8 (cfgM m hO).N = scalesR m c :=
  (dats m hO hH 0 c).arrAt_eq_of_cover 8 (scalesR m c) (fun t _ => flushed8 m hO hH hB c t) (covered8 m hO)

include hO hH in
/-- Every run leaves the reference's codes and scales, and the arguments as launched. -/
theorem run_value (hB : Bounded m) : θ_run defs (onTc (τ := τ) (main (F := Ideal))) ⟨m, fun _ => 0, ρ⟩ (fun r => ∀ c : Dev nD,
      r.2.mem ((c.tc : Thread nD τ).loc main_v17_1) = codesR m c
      ∧ r.2.mem ((c.tc : Thread nD τ).loc main_v17_2) = scalesR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((dats m hO hH 0 c).toRForget_arrAt_iff (fgt := forgets0) (w := 7) rfl _ _).mp ((h.1 c).1 7)).trans (final7 m hO hH hB c),
      (((dats m hO hH 0 c).toRForget_arrAt_iff (fgt := forgets0) (w := 8) rfl _ _).mp ((h.1 c).1 8)).trans (final8 m hO hH hB c),
      h.2 c⟩) (θ_run_and (run_main m ρ hO hH) (unchanged m ρ hO hH))

end Cert.KernelIdeal.Gen

namespace Cert.KernelIdealHyps

open Cert.KernelIdeal Cert.KernelIdeal.Gen
open Idealize.ShloMosaic Idealize.ShloMosaic.TcCoe

/-- The precondition bounds the gains. -/
theorem bounded_of_pre (m : (ℓ : Loc nD τ sig) → Buf (Elt Ideal) ℓ) (h : Cert.Pre_KernelIdeal m) : Bounded m := fun c d => by
  have e := (Positions.pre_decoded _ _ _ _ _ _ (h c)).2 (ix1 d)
  exact (Ideal.cmp_ole_eq_one _ _).mp e

end Cert.KernelIdealHyps
-- ==== Proof.lean ====
module

public import Idealize.ShloMosaic.Lib.Bf16Pair
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Bits.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_pre
public import proofs.«01_k».proof.Proof.KernelHyps
public import proofs.«01_k».proof.Proof.KernelFrame
public import proofs.«01_k».proof.Proof.KernelIdealHyps
public import proofs.«01_k».proof.Proof.KernelValue
public import Idealize.ShloMosaic.Adequacy
public import Idealize.ShloMosaic.Init

@[expose] public section

noncomputable section

namespace Cert.Proof

open Idealize.ShloMosaic Idealize.SL.Sem

/-- The kernel at machine floats runs, its arguments end unchanged, its semaphores at zero. -/
theorem frame_kernel : @quiescent_Kernel Cert.Kernel.Gen.facts Cert.Pre_pre.Gen.facts := fun m g h =>
  Cert.Kernel.Gen.frame m g (Cert.KernelHyps.ok m) (Cert.KernelHyps.hyps_of_pre m h)

/-- So does the kernel at exact arithmetic. -/
theorem frame_ideal : @quiescent_KernelIdeal Cert.KernelIdeal.Gen.facts Cert.Pre_pre.Gen.facts := fun m g h =>
  Cert.KernelIdeal.Gen.frame m g (Cert.KernelIdealHyps.ok m) (Cert.KernelIdealHyps.hyps_of_pre m h)

/-- So does the reference. -/
theorem frame_reference : @quiescent_ReferenceIdeal Cert.ReferenceIdeal.Gen.facts := fun m g _ =>
  Cert.ReferenceIdeal.Gen.frame m g

/-- And under the precondition. -/
theorem frame_reference_pre : @quiescent_ReferenceIdeal_pre_pre Cert.ReferenceIdeal.Gen.facts Cert.Pre_pre.Gen.facts :=
  fun m g _ => Cert.ReferenceIdeal.Gen.frame m g

/-- The packing of two rotated rows into one word, read at exact arithmetic as the two rows rounded apart. -/
theorem preserves : preserves_Kernel_KernelIdeal :=
  ⟨IdealRules.bf16_pair.packStatement _, IdealRules.bf16_pair.statement _ _⟩

/-- At exact arithmetic, from the same arguments within the precondition, the kernel's codes and scales are the
    reference's. -/
theorem algebraic : @algebraic_KernelIdeal_ReferenceIdeal Cert.KernelIdeal.Gen.facts Cert.ReferenceIdeal.Gen.facts Cert.Pre_pre.Gen.facts :=
  fun m g m' g' h e =>
    ⟨Cert.KernelIdeal.Gen.codesR m, Cert.KernelIdeal.Gen.scalesR m,
      Cert.KernelIdeal.Gen.run_value m g (Cert.KernelIdealHyps.ok m) (Cert.KernelIdealHyps.hyps_of_pre m h)
        (Cert.KernelIdealHyps.bounded_of_pre m h),
      (θ_run Cert.ReferenceIdeal.defs _ _).mono (fun _ hr c => by
        obtain ⟨h0, h1, ha⟩ := hr c
        obtain ⟨e0, e1, e2, e3, e4, _⟩ := e c
        rw [e0, e1, e2, e3, e4] at h0 h1
        exact ⟨h0, h1, ha⟩) (Cert.ReferenceIdeal.Value.run m' g')⟩

/-- All the claims. -/
theorem claim : Cert.Claim :=
  ⟨Cert.Kernel.Gen.facts, Cert.KernelIdeal.Gen.facts, Cert.ReferenceIdeal.Gen.facts, Cert.Pre_pre.Gen.facts,
    frame_kernel, frame_ideal, frame_reference, frame_reference_pre, preserves, algebraic⟩

end Cert.Proof
